-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S6x3072x4096 : Shape := ⟨3, ![6, 3072, 4096]⟩
abbrev S12288x4096 : Shape := ⟨2, ![12288, 4096]⟩
abbrev S12288 : Shape := ⟨1, ![12288]⟩
abbrev S18432x4096 : Shape := ⟨2, ![18432, 4096]⟩
abbrev S1x12288 : Shape := ⟨2, ![1, 12288]⟩
abbrev S2304x8x12288 : Shape := ⟨3, ![2304, 8, 12288]⟩
abbrev S144x128 : Shape := ⟨2, ![144, 128]⟩
abbrev S1024x4096 : Shape := ⟨2, ![1024, 4096]⟩
abbrev S1x1024 : Shape := ⟨2, ![1, 1024]⟩
abbrev S128x8x1024 : Shape := ⟨3, ![128, 8, 1024]⟩
abbrev S8x128 : Shape := ⟨2, ![8, 128]⟩
abbrev S1024x1 : Shape := ⟨2, ![1024, 1]⟩
abbrev S1024 : Shape := ⟨1, ![1024]⟩
abbrev S1024x256 : Shape := ⟨2, ![1024, 256]⟩
abbrev S1024x128 : Shape := ⟨2, ![1024, 128]⟩
abbrev S8x128x128 : Shape := ⟨3, ![8, 128, 128]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S6x3072x4096, .bf16⟩
  | .hbm, ⟨1, _⟩ => ⟨S12288x4096, .fp8e4m3⟩
  | .hbm, ⟨2, _⟩ => ⟨S12288, .f32⟩
  | .hbm, ⟨3, _⟩ => ⟨S12288, .f32⟩
  | .hbm, ⟨4, _⟩ => ⟨S18432x4096, .bf16⟩
  | .hbm, ⟨5, _⟩ => ⟨S1x12288, .f32⟩
  | .hbm, ⟨6, _⟩ => ⟨S1x12288, .f32⟩
  | .hbm, ⟨7, _⟩ => ⟨S2304x8x12288, .bf16⟩
  | .hbm, ⟨8, _⟩ => ⟨S18432x4096, .fp8e4m3⟩
  | .hbm, ⟨9, _⟩ => ⟨S144x128, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .fp8e4m3⟩
  | .local _ .vmem, ⟨3, _⟩ => ⟨S1024x4096, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x8x1024, .bf16⟩
  | .local _ .vmem, ⟨9, _⟩ => ⟨S128x8x1024, .bf16⟩
  | .local _ .vmem, ⟨10, _⟩ => ⟨S1024x4096, .fp8e4m3⟩
  | .local _ .vmem, ⟨11, _⟩ => ⟨S1024x4096, .fp8e4m3⟩
  | .local _ .vmem, ⟨12, _⟩ => ⟨S8x128, .f32⟩
  | .local _ .vmem, ⟨13, _⟩ => ⟨S8x128, .f32⟩
  | .local _ .vmem, ⟨14, _⟩ => ⟨S1024x1, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
variable {F : FTy → Type} [FloatOps F] [Named F]
def κ : String → Option EReal := fun
  | "ln_2" => some ((Real.log 2 : ℝ) : EReal)
  | _ => none
-- ==== Reference.lean ====
abbrev S6x3072x4096 : Shape := ⟨3, ![6, 3072, 4096]⟩
abbrev S12288x4096 : Shape := ⟨2, ![12288, 4096]⟩
abbrev S12288 : Shape := ⟨1, ![12288]⟩
abbrev S18432x4096 : Shape := ⟨2, ![18432, 4096]⟩
abbrev S1x12288 : Shape := ⟨2, ![1, 12288]⟩
abbrev S2304x8x12288 : Shape := ⟨3, ![2304, 8, 12288]⟩
abbrev S144x128 : Shape := ⟨2, ![144, 128]⟩
abbrev S18432 : Shape := ⟨1, ![18432]⟩
abbrev S18432x1 : Shape := ⟨2, ![18432, 1]⟩
abbrev S18432x12288 : Shape := ⟨2, ![18432, 12288]⟩

abbrev nBuf : Space → Nat
  | .hbm => 10
  | .vmem => 7
  | .smem => 0
  | _ => 0

abbrev bufTy : (tb : Table) → Fin (tcTables nBuf tb) → BufTy
  | .hbm, ⟨0, _⟩ => ⟨S6x3072x4096, .bf16⟩
  | .hbm, ⟨1, _⟩ => ⟨S12288x4096, .fp8e4m3⟩
  | .hbm, ⟨2, _⟩ => ⟨S12288, .f32⟩
  | .hbm, ⟨3, _⟩ => ⟨S12288, .f32⟩
  | .hbm, ⟨4, _⟩ => ⟨S18432x4096, .bf16⟩
  | .hbm, ⟨5, _⟩ => ⟨S1x12288, .f32⟩
  | .hbm, ⟨6, _⟩ => ⟨S1x12288, .f32⟩
  | .hbm, ⟨7, _⟩ => ⟨S2304x8x12288, .bf16⟩
  | .hbm, ⟨8, _⟩ => ⟨S18432x4096, .fp8e4m3⟩
  | .hbm, ⟨9, _⟩ => ⟨S144x128, .f32⟩
  | .local _ .vmem, ⟨0, _⟩ => ⟨S18432x4096, .bf16⟩
  | .local _ .vmem, ⟨1, _⟩ => ⟨S12288x4096, .fp8e4m3⟩
  | .local _ .vmem, ⟨2, _⟩ => ⟨S1x12288, .f32⟩
  | .local _ .vmem, ⟨3, _⟩ => ⟨S1x12288, .f32⟩
  | .local _ .vmem, ⟨4, _⟩ => ⟨S2304x8x12288, .bf16⟩
  | .local _ .vmem, ⟨5, _⟩ => ⟨S18432x4096, .fp8e4m3⟩
  | .local _ .vmem, ⟨6, _⟩ => ⟨S144x128, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x8x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PlainSkeleton.lean ====
/- The kernel function of `Kernel` split into its memory operations and the pure values between them: each
   value that a store writes is a definition (`k0_payN`) over the values loaded before it, and the printed function is
   the list of loads and stores over those names, by definition. -/
module

public import proofs.«01_k».proof.Proof.Gen.Kernel

@[expose] public section

set_option synthInstance.maxSize 4096

noncomputable section

namespace Cert.Kernel.Body

open Idealize.ShloMosaic Idealize.SL.Sem Cert.Kernel.Gen

variable {F : FTy → Type} [FloatOps F]
/-! ## `cc0__linear_kernel` -/

/-- `%64 = tpu.bitcast %63 : vector<1024x1xi32> -> vector<1024x1xf32>` of `cc0__linear_kernel`, from
   the values read before it. Read by `k0_pay3`, `k0_pay4`. -/
noncomputable def k0_pay1 (v61 : IVec S1024x1 32) (c23_i32_26 : BitVec 32) : FVec F S1024x1 .f32 :=
  have v62 : IVec S1024x1 32 := broadcast S1024x1 c23_i32_26            -- %62 = vector.broadcast %c23_i32_26 : i32 to vector<1024x1xi32>  @ test_k:31
  have v63 : IVec S1024x1 32 := shli v61 v62                            -- %63 = arith.shli %61, %62 : vector<1024x1xi32>  @ test_k:31
  have v64 : FVec F S1024x1 .f32 := bitcastToFloat .f32 v63             -- %64 = tpu.bitcast %63 : vector<1024x1xi32> -> vector<1024x1xf32>  @ test_k:31
  v64

/-- `%82 = arith.truncf %81 : vector<1024x4096xf32> to vector<1024x4096xf8E4M3FN>` of
   `cc0__linear_kernel`, from the values read before it. Read by `tpu.vector_store %arg7[%c0_34,
   %c0_35], %82`. -/
noncomputable def k0_pay2 (v23 : FVec F S1024x4096 .f32) (v55 : IVec S1024x1 32) : FVec F S1024x4096 .fp8e4m3 :=
  have v65 : IVec S1024x1 32 := broadcast S1024x1 0#32                  -- %65 = vector.broadcast %c0_i32_27 : i32 to vector<1024x1xi32>  @ test_k:40
  have v66 : IVec S1024x1 32 := subi v65 v55                            -- %66 = arith.subi %65, %55 : vector<1024x1xi32>  @ test_k:40
  have v67 : IVec S1024x1 32 := broadcast S1024x1 127#32                -- %67 = vector.broadcast %c127_i32_28 : i32 to vector<1024x1xi32>  @ test_k:31
  have v68 : IVec S1024x1 32 := addi v66 v67                            -- %68 = arith.addi %66, %67 : vector<1024x1xi32>  @ test_k:31
  have v69 : IVec S1024x1 32 := broadcast S1024x1 0#32                  -- %69 = vector.broadcast %c0_i32_29 : i32 to vector<1024x1xi32>
  have v70 : IVec S1024x1 32 := maxsi v69 v68                           -- %70 = arith.maxsi %69, %68 : vector<1024x1xi32>
  have v71 : IVec S1024x1 32 := broadcast S1024x1 255#32                -- %71 = vector.broadcast %c255_i32_30 : i32 to vector<1024x1xi32>
  have v72 : IVec S1024x1 32 := minsi v71 v70                           -- %72 = arith.minsi %71, %70 : vector<1024x1xi32>
  have v73 : IVec S1024x1 32 := broadcast S1024x1 23#32                 -- %73 = vector.broadcast %c23_i32_31 : i32 to vector<1024x1xi32>  @ test_k:31
  have v74 : IVec S1024x1 32 := shli v72 v73                            -- %74 = arith.shli %72, %73 : vector<1024x1xi32>  @ test_k:31
  have v75 : FVec F S1024x1 .f32 := bitcastToFloat .f32 v74             -- %75 = tpu.bitcast %74 : vector<1024x1xi32> -> vector<1024x1xf32>  @ test_k:31
  have v76 : FVec F S1024x4096 .f32 := broadcastTo S1024x4096 v75 broadcasts_S1024x1_S1024x4096 -- %76 = vector.broadcast %75 : vector<1024x1xf32> to vector<1024x4096xf32>  @ test_k:41
  have v77 : FVec F S1024x4096 .f32 := mulf v23 v76                     -- %77 = arith.mulf %23, %76 : vector<1024x4096xf32>  @ test_k:41
  have cst_32 : F .f32 := Scalar.ofBits .f32 0xC3E00000#32              -- %cst_32 = arith.constant -4.480000e+02 : f32
  have cst_33 : F .f32 := Scalar.ofBits .f32 0x43E00000#32              -- %cst_33 = arith.constant 4.480000e+02 : f32
  have v78 : FVec F S1024x4096 .f32 := broadcast S1024x4096 cst_32      -- %78 = vector.broadcast %cst_32 : f32 to vector<1024x4096xf32>
  have v79 : FVec F S1024x4096 .f32 := maximumf v78 v77                 -- %79 = arith.maximumf %78, %77 : vector<1024x4096xf32>
  have v80 : FVec F S1024x4096 .f32 := broadcast S1024x4096 cst_33      -- %80 = vector.broadcast %cst_33 : f32 to vector<1024x4096xf32>
  have v81 : FVec F S1024x4096 .f32 := minimumf v80 v79                 -- %81 = arith.minimumf %80, %79 : vector<1024x4096xf32>
  have v82 : FVec F S1024x4096 .fp8e4m3 := truncf .fp8e4m3 v81 bitsLt_fp8e4m3_f32 -- %82 = arith.truncf %81 : vector<1024x4096xf32> to vector<1024x4096xf8E4M3FN>  @ test_k:41
  v82

/-- `%86 = vector.shape_cast %64 : vector<1024x1xf32> to vector<1024x1xf32>` of
   `cc0__linear_kernel`, from the values read before it. Read by `tpu.vector_store %arg9[%c0_36,
   %c0_37], %86`. -/
noncomputable def k0_pay3 (v61 : IVec S1024x1 32) (c23_i32_26 : BitVec 32) : FVec F S1024x1 .f32 :=
  have v86 : FVec F S1024x1 .f32 := shapeCast S1024x1 (k0_pay1 (F := F) v61 c23_i32_26) shapeCasts_S1024x1_S1024x1 -- %86 = vector.shape_cast %64 : vector<1024x1xf32> to vector<1024x1xf32>  @ test_k:58
  v86

/-- `%95 = vector.multi_reduction <add>, %94, %cst_39 [1] : vector<8x128x128xf32> to
   vector<8x128xf32>` of `cc0__linear_kernel`, from the values read before it. Read by
   `tpu.vector_store %arg8[%c0_40, %c0_41], %95`. -/
noncomputable def k0_pay4 (v61 : IVec S1024x1 32) (c23_i32_26 : BitVec 32) : FVec F S8x128 .f32 :=
  have v87 : FVec F S1024x1 .f32 := shapeCast S1024x1 (k0_pay1 (F := F) v61 c23_i32_26) shapeCasts_S1024x1_S1024x1 -- %87 = vector.shape_cast %64 : vector<1024x1xf32> to vector<1024x1xf32>  @ test_k:47
  have v88 : FVec F S1024x128 .f32 := broadcastTo S1024x128 v87 broadcasts_S1024x1_S1024x128 -- %88 = vector.broadcast %87 : vector<1024x1xf32> to vector<1024x128xf32>  @ test_k:47
  have v89 : FVec F S8x128x128 .f32 := shapeCast S8x128x128 v88 shapeCasts_S1024x128_S8x128x128 -- %89 = vector.shape_cast %88 : vector<1024x128xf32> to vector<8x128x128xf32>  @ test_k:47
  have v90 : IVec S8x128x128 32 := iota .tc S8x128x128 32 [1] iota_S8x128x128_d1_w32 -- %90 = tpu.iota {dimensions = array<i32: 1>} : vector<8x128x128xi32>  @ test_k:48
  have v91 : IVec S8x128x128 32 := iota .tc S8x128x128 32 [2] iota_S8x128x128_d2_w32 -- %91 = tpu.iota {dimensions = array<i32: 2>} : vector<8x128x128xi32>  @ test_k:49
  have v92 : IVec S8x128x128 1 := cmpi .eq v90 v91                      -- %92 = arith.cmpi eq, %90, %91 : vector<8x128x128xi32>  @ test_k:48
  have cst_38 : F .f32 := Scalar.ofBits .f32 0x00000000#32              -- %cst_38 = arith.constant 0.000000e+00 : f32
  have v93 : FVec F S8x128x128 .f32 := broadcast S8x128x128 cst_38      -- %93 = vector.broadcast %cst_38 : f32 to vector<8x128x128xf32>
  have v94 : FVec F S8x128x128 .f32 := select v92 v89 v93               -- %94 = arith.select %92, %89, %93 : vector<8x128x128xi1>, vector<8x128x128xf32>
  have v95 : FVec F S8x128 .f32 := multiReduction .add [1] S8x128 v94 0x00000000#32 reduces_S8x128x128_S8x128 (.inl rfl) rfl -- %95 = vector.multi_reduction <add>, %94, %cst_39 [1] : vector<8x128x128xf32> to vector<8x128xf32>  @ test_k:50
  v95

/-- `%19 = arith.truncf %18 : vector<128x8x1024xf32> to vector<128x8x1024xbf16>` of
   `cc0__linear_kernel`, from the values read before it. Read by `tpu.vector_store %arg6[%c0_10,
   %c0_11, %c0_12], %19`. -/
noncomputable def k0_pay5 (v3 : Vec F S1024x4096 .fp8e4m3) (v5 : Vec F S1024x4096 .fp8e4m3) (v7 : Vec F S1024x1 .f32) (v10 : Vec F S1x1024 .f32) (v14 : Vec F S1x1024 .f32) : FVec F S128x8x1024 .bf16 :=
  have v4 : FVec F S1024x4096 .fp8e4m3 := shapeCast S1024x4096 v3 shapeCasts_S1024x4096_S1024x4096 -- %4 = vector.shape_cast %3 : vector<1024x4096xf8E4M3FN> to vector<1024x4096xf8E4M3FN>  @ test_k:61
  have cst : FVec F S1024x1024 .f32 := constant S1024x1024 .f32 0x00000000#32 -- %cst = arith.constant dense<0.000000e+00> : vector<1024x1024xf32>
  have v6 : FVec F S1024x1024 .f32 := matmul dot_S1024x4096_S1024x4096_S1024x1024_1_1_0_0_n_n none v4 v5 cst -- %6 = tpu.matmul %4, %5, %cst {dimension_numbers = #tpu.dot_dimension_numbers<[1], [1], [0], [0], [0, 0, 1, 0], [], []>, transpose_lhs_hint = false} : vector<1024x4096xf8E4M3FN>, vector<1024x4096xf8E4M3FN>, vector<1024x1024xf32> -> vector<1024x1024xf32>  @ test_k:61
  have v8 : FVec F S1024x1024 .f32 := broadcastTo S1024x1024 v7 broadcasts_S1024x1_S1024x1024 -- %8 = vector.broadcast %7 : vector<1024x1xf32> to vector<1024x1024xf32>  @ test_k:63
  have v9 : FVec F S1024x1024 .f32 := mulf v6 v8                        -- %9 = arith.mulf %6, %8 : vector<1024x1024xf32>  @ test_k:63
  have v11 : FVec F S1x1024 .f32 := shapeCast S1x1024 v10 shapeCasts_S1x1024_S1x1024 -- %11 = vector.shape_cast %10 : vector<1x1024xf32> to vector<1x1024xf32>  @ test_k:63
  have v12 : FVec F S1024x1024 .f32 := broadcastTo S1024x1024 v11 broadcasts_S1x1024_S1024x1024 -- %12 = vector.broadcast %11 : vector<1x1024xf32> to vector<1024x1024xf32>  @ test_k:63
  have v13 : FVec F S1024x1024 .f32 := mulf v9 v12                      -- %13 = arith.mulf %9, %12 : vector<1024x1024xf32>  @ test_k:63
  have v15 : FVec F S1x1024 .f32 := shapeCast S1x1024 v14 shapeCasts_S1x1024_S1x1024 -- %15 = vector.shape_cast %14 : vector<1x1024xf32> to vector<1x1024xf32>  @ test_k:63
  have v16 : FVec F S1024x1024 .f32 := broadcastTo S1024x1024 v15 broadcasts_S1x1024_S1024x1024 -- %16 = vector.broadcast %15 : vector<1x1024xf32> to vector<1024x1024xf32>  @ test_k:63
  have v17 : FVec F S1024x1024 .f32 := addf v13 v16                     -- %17 = arith.addf %13, %16 : vector<1024x1024xf32>  @ test_k:63
  have v18 : FVec F S128x8x1024 .f32 := shapeCast S128x8x1024 v17 shapeCasts_S1024x1024_S128x8x1024 -- %18 = vector.shape_cast %17 : vector<1024x1024xf32> to vector<128x8x1024xf32>  @ test_k:64
  have v19 : FVec F S128x8x1024 .bf16 := truncf .bf16 v18 bitsLt_bf16_f32 -- %19 = arith.truncf %18 : vector<128x8x1024xf32> to vector<128x8x1024xbf16>  @ test_k:64
  v19

/-- `%23 = arith.extf %22 : vector<1024x4096xbf16> to vector<1024x4096xf32>` of `k0_part1`, from the
   values read before it. Read by the loop's rebinding, condition or exit; `k0_pay7`. -/
noncomputable def k0_pay6 (v21 : Vec F S1024x4096 .bf16) : FVec F S1024x4096 .f32 :=
  have v22 : FVec F S1024x4096 .bf16 := shapeCast S1024x4096 v21 shapeCasts_S1024x4096_S1024x4096 -- %22 = vector.shape_cast %21 : vector<1024x4096xbf16> to vector<1024x4096xbf16>  @ test_k:56
  have v23 : FVec F S1024x4096 .f32 := extf .f32 v22 bitsLt_bf16_f32    -- %23 = arith.extf %22 : vector<1024x4096xbf16> to vector<1024x4096xf32>  @ test_k:35
  v23

/-- `%55 = arith.select %53, %54, %51 : vector<1024x1xi1>, vector<1024x1xi32>` of `k0_part1`, from
   the values read before it. Read by the loop's rebinding, condition or exit; `k0_pay8`. -/
noncomputable def k0_pay7 (v21 : Vec F S1024x4096 .bf16) : IVec S1024x1 32 :=
  have v24 : FVec F S1024x4096 .f32 := absf (k0_pay6 v21)               -- %24 = math.absf %23 : vector<1024x4096xf32>  @ test_k:36
  have v25 : FVec F S1024 .f32 := multiReduction .maximumf [1] S1024 v24 0xFF800000#32 reduces_S1024x4096_S1024 (.inl rfl) rfl -- %25 = vector.multi_reduction <maximumf>, %24, %cst_15 [1] : vector<1024x4096xf32> to vector<1024xf32>  @ test_k:36
  have v26 : FVec F S1024x1 .f32 := shapeCast S1024x1 v25 shapeCasts_S1024_S1024x1 -- %26 = vector.shape_cast %25 : vector<1024xf32> to vector<1024x1xf32>  @ test_k:36
  have cst_16 : F .f32 := Scalar.ofBits .f32 0x3B124925#32              -- %cst_16 = arith.constant 0.00223214296 : f32
  have v27 : FVec F S1024x1 .f32 := broadcast S1024x1 cst_16            -- %27 = vector.broadcast %cst_16 : f32 to vector<1024x1xf32>  @ test_k:37
  have v28 : FVec F S1024x1 .f32 := mulf v26 v27                        -- %28 = arith.mulf %26, %27 : vector<1024x1xf32>  @ test_k:37
  have v29 : IVec S1024x256 32 := iota .tc S1024x256 32 [1] iota_S1024x256_d1_w32 -- %29 = tpu.iota {dimensions = array<i32: 1>} : vector<1024x256xi32>  @ test_k:23
  have v30 : IVec S1024x256 32 := broadcast S1024x256 23#32             -- %30 = vector.broadcast %c23_i32 : i32 to vector<1024x256xi32>  @ test_k:24
  have v31 : IVec S1024x256 32 := shli v29 v30                          -- %31 = arith.shli %29, %30 : vector<1024x256xi32>  @ test_k:24
  have v32 : FVec F S1024x256 .f32 := bitcastToFloat .f32 v31           -- %32 = tpu.bitcast %31 : vector<1024x256xi32> -> vector<1024x256xf32>  @ test_k:24
  have v33 : FVec F S1024x1 .f32 := absf v28                            -- %33 = math.absf %28 : vector<1024x1xf32>  @ test_k:25
  have v34 : FVec F S1024x256 .f32 := broadcastTo S1024x256 v33 broadcasts_S1024x1_S1024x256 -- %34 = vector.broadcast %33 : vector<1024x1xf32> to vector<1024x256xf32>  @ test_k:25
  have v35 : IVec S1024x256 1 := cmpf .oge v34 v32                      -- %35 = arith.cmpf oge, %34, %32 : vector<1024x256xf32>  @ test_k:25
  have v36 : IVec S1024x256 32 := broadcast S1024x256 1#32              -- %36 = vector.broadcast %c1_i32 : i32 to vector<1024x256xi32>
  have v37 : IVec S1024x256 32 := broadcast S1024x256 0#32              -- %37 = vector.broadcast %c0_i32_17 : i32 to vector<1024x256xi32>
  have v38 : IVec S1024x256 32 := select v35 v36 v37                    -- %38 = arith.select %35, %36, %37 : vector<1024x256xi1>, vector<1024x256xi32>
  have v39 : IVec S1024 32 := multiReductionI .add [1] S1024 v38 0#32 reduces_S1024x256_S1024 rfl -- %39 = vector.multi_reduction <add>, %38, %cst_18 [1] : vector<1024x256xi32> to vector<1024xi32>  @ test_k:25
  have v40 : IVec S1024x1 32 := shapeCast S1024x1 v39 shapeCasts_S1024_S1024x1 -- %40 = vector.shape_cast %39 : vector<1024xi32> to vector<1024x1xi32>  @ test_k:25
  have v41 : IVec S1024x1 32 := broadcast S1024x1 1#32                  -- %41 = vector.broadcast %c1_i32_19 : i32 to vector<1024x1xi32>  @ test_k:25
  have v42 : IVec S1024x1 32 := subi v40 v41                            -- %42 = arith.subi %40, %41 : vector<1024x1xi32>  @ test_k:25
  have v43 : IVec S1024x1 32 := broadcast S1024x1 0#32                  -- %43 = vector.broadcast %c0_i32_20 : i32 to vector<1024x1xi32>  @ test_k:26
  have v44 : IVec S1024x1 1 := cmpi .sle v42 v43                        -- %44 = arith.cmpi sle, %42, %43 : vector<1024x1xi32>  @ test_k:26
  have v45 : IVec S1024x1 32 := broadcast S1024x1 255#32                -- %45 = vector.broadcast %c255_i32 : i32 to vector<1024x1xi32>  @ test_k:26
  have v46 : IVec S1024x1 1 := cmpi .eq v42 v45                         -- %46 = arith.cmpi eq, %42, %45 : vector<1024x1xi32>  @ test_k:26
  have v47 : IVec S1024x1 1 := ori v44 v46                              -- %47 = arith.ori %44, %46 : vector<1024x1xi1>  @ test_k:26
  have v48 : IVec S1024x1 32 := broadcast S1024x1 126#32                -- %48 = vector.broadcast %c126_i32 : i32 to vector<1024x1xi32>  @ test_k:26
  have v49 : IVec S1024x1 32 := subi v42 v48                            -- %49 = arith.subi %42, %48 : vector<1024x1xi32>  @ test_k:26
  have v50 : IVec S1024x1 32 := broadcast S1024x1 0#32                  -- %50 = vector.broadcast %c0_i32_21 : i32 to vector<1024x1xi32>
  have v51 : IVec S1024x1 32 := select v47 v50 v49                      -- %51 = arith.select %47, %50, %49 : vector<1024x1xi1>, vector<1024x1xi32>
  have cst_22 : F .f32 := Scalar.ofBits .f32 0x00000000#32              -- %cst_22 = arith.constant 0.000000e+00 : f32
  have v52 : FVec F S1024x1 .f32 := broadcast S1024x1 cst_22            -- %52 = vector.broadcast %cst_22 : f32 to vector<1024x1xf32>  @ test_k:38
  have v53 : IVec S1024x1 1 := cmpf .oeq v26 v52                        -- %53 = arith.cmpf oeq, %26, %52 : vector<1024x1xf32>  @ test_k:38
  have v54 : IVec S1024x1 32 := broadcast S1024x1 0#32                  -- %54 = vector.broadcast %c0_i32_23 : i32 to vector<1024x1xi32>
  have v55 : IVec S1024x1 32 := select v53 v54 v51                      -- %55 = arith.select %53, %54, %51 : vector<1024x1xi1>, vector<1024x1xi32>
  v55

/-- `%61 = arith.minsi %60, %59 : vector<1024x1xi32>` of `k0_part1`, from the values read before it.
   Read by the loop's rebinding, condition or exit. -/
noncomputable def k0_pay8 (v21 : Vec F S1024x4096 .bf16) : IVec S1024x1 32 :=
  have v56 : IVec S1024x1 32 := broadcast S1024x1 127#32                -- %56 = vector.broadcast %c127_i32 : i32 to vector<1024x1xi32>  @ test_k:31
  have v57 : IVec S1024x1 32 := addi (k0_pay7 v21) v56                  -- %57 = arith.addi %55, %56 : vector<1024x1xi32>  @ test_k:31
  have v58 : IVec S1024x1 32 := broadcast S1024x1 0#32                  -- %58 = vector.broadcast %c0_i32_24 : i32 to vector<1024x1xi32>
  have v59 : IVec S1024x1 32 := maxsi v58 v57                           -- %59 = arith.maxsi %58, %57 : vector<1024x1xi32>
  have v60 : IVec S1024x1 32 := broadcast S1024x1 255#32                -- %60 = vector.broadcast %c255_i32_25 : i32 to vector<1024x1xi32>
  have v61 : IVec S1024x1 32 := minsi v60 v59                           -- %61 = arith.minsi %60, %59 : vector<1024x1xi32>
  v61

/-- `cc0__linear_kernel` as a skeleton of memory operations over payloads. -/
noncomputable def cc0__linear_kernel_skel (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) :
    Prog (TpuEff nD τ sig (Elt F) Λ₀ .tc) PUnit := do
  if k0_h1 : k0_cond1 i = 1#1 then do                                   -- scf.if %2 {  @ test_k:54
    let ⟨v23, v55, v61, c23_i32_26⟩ : Σ' (v23 : FVec F S1024x4096 .f32) (v55 : IVec S1024x1 32) (v61 : IVec S1024x1 32), BitVec 32 ← k0_part1 i arg2 harg2 arg3 harg3 arg4 harg4 arg5 harg5 arg6 harg6 arg7 harg7 arg8 harg8 arg9 harg9 -- statements 1–60 of 114: their part
    let v83 : Vec F S1024x4096 .fp8e4m3 ← Prog.lift (.load arg7 (Rect.unit (s := S1024x4096) ![0, 0] S1024x4096.size inb_S1024x4096_S1024x4096_0_0).toLoadRect (View.loadsAt_vmem h_S1024x4096)) -- %83 = vector.load %arg7[%c0_34, %c0_35] : memref<1024x4096xf8E4M3FN, #tpu.memory_space<vmem>>, vector<1024x4096xf8E4M3FN>  @ test_k:57
    Prog.lift (.store arg7 (Rect.unit (s := S1024x4096) ![0, 0] S1024x4096.size inb_S1024x4096_S1024x4096_0_0) (k0_pay2 v23 v55) Finset.univ (View.stores_vmem h_S1024x4096 (harg7.storeExact_slice rfl _ packedfp8e4m3_S1024x4096_S1024x4096_0_0) (fun _ => rfl)) (.inl rfl)) -- tpu.vector_store %arg7[%c0_34, %c0_35], %82 {strides = array<i32>} : memref<1024x4096xf8E4M3FN, #tpu.memory_space<vmem>>, vector<1024x4096xf8E4M3FN>,  @ test_k:57
    let v84 : Vec F S1024x1 .f32 ← Prog.lift (.load arg9 (Rect.unit (s := S1024x1) ![0, 0] S1024x1.size inb_S1024x1_S1024x1_0_0).toLoadRect (View.loadsAt_vmem h_S1024x1)) -- %84 = vector.load %arg9[%c0_36, %c0_37] : memref<1024x1xf32, #tpu.memory_space<vmem>>, vector<1024x1xf32>  @ test_k:58
    Prog.lift (.store arg9 (Rect.unit (s := S1024x1) ![0, 0] S1024x1.size inb_S1024x1_S1024x1_0_0) (k0_pay3 (F := F) v61 c23_i32_26) Finset.univ (View.stores_vmem_bits_univ h_S1024x1 rfl) (.inl rfl)) -- tpu.vector_store %arg9[%c0_36, %c0_37], %86 {strides = array<i32>} : memref<1024x1xf32, #tpu.memory_space<vmem>>, vector<1024x1xf32>,  @ test_k:58
    let v96 : Vec F S8x128 .f32 ← Prog.lift (.load arg8 (Rect.unit (s := S8x128) ![0, 0] S8x128.size inb_S8x128_S8x128_0_0).toLoadRect (View.loadsAt_vmem h_S8x128)) -- %96 = vector.load %arg8[%c0_40, %c0_41] : memref<8x128xf32, #tpu.memory_space<vmem>>, vector<8x128xf32>  @ test_k:59
    Prog.lift (.store arg8 (Rect.unit (s := S8x128) ![0, 0] S8x128.size inb_S8x128_S8x128_0_0) (k0_pay4 (F := F) v61 c23_i32_26) Finset.univ (View.stores_vmem_bits_univ h_S8x128 rfl) (.inl rfl)) -- tpu.vector_store %arg8[%c0_40, %c0_41], %95 {strides = array<i32>} : memref<8x128xf32, #tpu.memory_space<vmem>>, vector<8x128xf32>,  @ test_k:59
    pure ⟨⟩                                                             -- scf.yield / }
  else do                                                               -- } else {
    pure ⟨⟩                                                             -- scf.yield / }
  let v3 : Vec F S1024x4096 .fp8e4m3 ← Prog.lift (.load arg7 (Rect.unit (s := S1024x4096) ![0, 0] S1024x4096.size inb_S1024x4096_S1024x4096_0_0).toLoadRect (View.loadsAt_vmem h_S1024x4096)) -- %3 = vector.load %arg7[%c0, %c0_1] : memref<1024x4096xf8E4M3FN, #tpu.memory_space<vmem>>, vector<1024x4096xf8E4M3FN>  @ test_k:61
  let v5 : Vec F S1024x4096 .fp8e4m3 ← Prog.lift (.load arg3 (Rect.unit (s := S1024x4096) ![0, 0] S1024x4096.size inb_S1024x4096_S1024x4096_0_0).toLoadRect (View.loadsAt_vmem h_S1024x4096)) -- %5 = vector.load %arg3[%c0_2, %c0_3] : memref<1024x4096xf8E4M3FN, #tpu.memory_space<vmem>>, vector<1024x4096xf8E4M3FN>  @ test_k:61
  let v7 : Vec F S1024x1 .f32 ← Prog.lift (.load arg9 (Rect.unit (s := S1024x1) ![0, 0] S1024x1.size inb_S1024x1_S1024x1_0_0).toLoadRect (View.loadsAt_vmem h_S1024x1)) -- %7 = vector.load %arg9[%c0_4, %c0_5] : memref<1024x1xf32, #tpu.memory_space<vmem>>, vector<1024x1xf32>  @ test_k:63
  let v10 : Vec F S1x1024 .f32 ← Prog.lift (.load arg4 (Rect.unit (s := S1x1024) ![0, 0] S1x1024.size inb_S1x1024_S1x1024_0_0).toLoadRect (View.loadsAt_vmem h_S1x1024)) -- %10 = vector.load %arg4[%c0_6, %c0_7] : memref<1x1024xf32, #tpu.memory_space<vmem>>, vector<1x1024xf32>  @ test_k:63
  let v14 : Vec F S1x1024 .f32 ← Prog.lift (.load arg5 (Rect.unit (s := S1x1024) ![0, 0] S1x1024.size inb_S1x1024_S1x1024_0_0).toLoadRect (View.loadsAt_vmem h_S1x1024)) -- %14 = vector.load %arg5[%c0_8, %c0_9] : memref<1x1024xf32, #tpu.memory_space<vmem>>, vector<1x1024xf32>  @ test_k:63
  let v20 : Vec F S128x8x1024 .bf16 ← Prog.lift (.load arg6 (Rect.unit (s := S128x8x1024) ![0, 0, 0] S128x8x1024.size inb_S128x8x1024_S128x8x1024_0_0_0).toLoadRect (View.loadsAt_vmem h_S128x8x1024)) -- %20 = vector.load %arg6[%c0_10, %c0_11, %c0_12] : memref<128x8x1024xbf16, #tpu.memory_space<vmem>>, vector<128x8x1024xbf16>  @ test_k:64
  Prog.lift (.store arg6 (Rect.unit (s := S128x8x1024) ![0, 0, 0] S128x8x1024.size inb_S128x8x1024_S128x8x1024_0_0_0) (k0_pay5 v3 v5 v7 v10 v14) Finset.univ (View.stores_vmem h_S128x8x1024 (harg6.storeExact_slice rfl _ packedbf16_S128x8x1024_S128x8x1024_0_0_0) (fun _ => rfl)) (.inl rfl)) -- tpu.vector_store %arg6[%c0_10, %c0_11, %c0_12], %19 {strides = array<i32>} : memref<128x8x1024xbf16, #tpu.memory_space<vmem>>, vector<128x8x1024xbf16>,  @ test_k:64
  pure ⟨⟩                                                               -- func.return

set_option maxRecDepth 65536 in
/-- The printed `cc0__linear_kernel` is its skeleton: by definitional unfolding. -/
theorem cc0__linear_kernel_eq_skeleton : cc0__linear_kernel (F := F) = cc0__linear_kernel_skel (F := F) := rfl

/-- `k0_part1` as a skeleton of memory operations over payloads. -/
noncomputable def k0_part1_skel (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) :
    Prog (TpuEff nD τ sig (Elt F) Λ₀ .tc) (Σ' (v23 : FVec F S1024x4096 .f32) (v55 : IVec S1024x1 32) (v61 : IVec S1024x1 32), BitVec 32) := do
  let v21 : Vec F S1024x4096 .bf16 ← Prog.lift (.load arg2 (Rect.unit (s := S1024x4096) ![0, 0] S1024x4096.size inb_S1024x4096_S1024x4096_0_0).toLoadRect (View.loadsAt_vmem h_S1024x4096)) -- %21 = vector.load %arg2[%c0_13, %c0_14] : memref<1024x4096xbf16, #tpu.memory_space<vmem>>, vector<1024x4096xbf16>  @ test_k:56
  pure ⟨k0_pay6 v21, k0_pay7 v21, k0_pay8 v21, 23#32⟩

set_option maxRecDepth 65536 in
/-- The printed `k0_part1` is its skeleton: by definitional unfolding. -/
theorem k0_part1_eq_skeleton : k0_part1 (F := F) = k0_part1_skel (F := F) := rfl

end Cert.Kernel.Body

end
-- ==== Proof.PlainRun.lean ====
/- What one run of the kernel body does, at any values: at the first point of a row block it quantises the block of
   `x`, stores codes and scales, and writes the product; at the other points it writes the product of the codes and
   scales it finds. -/
module

public import proofs.«01_k».proof.Proof.PlainSkeleton
public import proofs.«01_k».proof.Proof.Gen.Kernel.Frame
public import Idealize.ShloMosaic.Lib.VecWindow
public import Idealize.ShloMosaic.Lib.Pipeline.ValueKit

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The codes of a block of `x`. -/
def codesB (x0 : Vec F S1024x4096 .bf16) : Vec F S1024x4096 .fp8e4m3 := k0_pay2 (k0_pay6 x0) (k0_pay7 x0)
/-- The scales of a block of `x`, as a column (the scratch). -/
def colB (x0 : Vec F S1024x4096 .bf16) : Vec F S1024x1 .f32 := k0_pay3 (k0_pay8 x0) 23#32
/-- The scales of a block of `x`, 128 to a row (the third result). -/
def rowsB (x0 : Vec F S1024x4096 .bf16) : Vec F S8x128 .f32 := k0_pay4 (k0_pay8 x0) 23#32

/-- The condition of the body's branch. -/
abbrev cond0_0 (i : grid0.Coords) : Prop := k0_cond1 i = 1#1

set_option maxHeartbeats 1000000 in
/-- The body at the first point of a row block. -/
theorem run_A (c : Dev nD) (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) (hc0 : cond0_0 i)
    (x0 : Vec F S1024x4096 .bf16) (x1 : Vec F S1024x4096 .fp8e4m3) (x2 : Vec F S1x1024 .f32) (x3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (codesB x0) x1 (colB x0) x2 x3) ∗ owns (c : Thread nD τ) arg7 fullShare (codesB x0) ∗ owns (c : Thread nD τ) arg8 fullShare (rowsB x0) ∗ owns (c : Thread nD τ) arg9 fullShare (colB x0)) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K := by
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro; refine (View.read_writes_full _ _ _ _ _).trans ?_; sl_unfold_words; simp (disch := decide) only [View.readAt_eq_ld, View.readCov_unit_lit, Memref.IsWhole.read_unread, View.ld_unit_lit]; rfl
    isplitl [H5]
    · iexists _; isplitr
      swap; · iexact H5
      ipureintro; refine (View.read_writes_full _ _ _ _ _).trans ?_; sl_unfold_words; simp (disch := decide) only [View.readAt_eq_ld, View.readCov_unit_lit, Memref.IsWhole.read_unread, View.ld_unit_lit]; rfl
    isplitl [H6]
    · iexists _; isplitr
      swap; · iexact H6
      ipureintro; refine (View.read_writes_full _ _ _ _ _).trans ?_; sl_unfold_words; simp (disch := decide) only [View.readAt_eq_ld, View.readCov_unit_lit, Memref.IsWhole.read_unread, View.ld_unit_lit]; rfl
    iexists _; isplitr
    swap; · iexact HS0
    ipureintro; refine (View.read_writes_full _ _ _ _ _).trans ?_; sl_unfold_words; simp (disch := decide) only [View.readAt_eq_ld, View.readCov_unit_lit, Memref.IsWhole.read_unread, View.ld_unit_lit]; rfl

set_option maxHeartbeats 1000000 in
/-- The body at a later point of a row block. -/
theorem run_B (c : Dev nD) (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) (hc0 : ¬cond0_0 i)
    (x0 : Vec F S1024x4096 .bf16) (x1 : Vec F S1024x4096 .fp8e4m3) (x2 : Vec F S1x1024 .f32) (x3 : Vec F S1x1024 .f32) (xo5 : Vec F S1024x4096 .fp8e4m3) (xo6 : Vec F S8x128 .f32) (xs0 : Vec F S1024x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 xo5 x1 xs0 x2 x3) ∗ owns (c : Thread nD τ) arg7 fullShare xo5 ∗ owns (c : Thread nD τ) arg8 fullShare xo6 ∗ owns (c : Thread nD τ) arg9 fullShare xs0) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K := by
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro; refine (View.read_writes_full _ _ _ _ _).trans ?_; sl_unfold_words; simp (disch := decide) only [View.readAt_eq_ld, View.readCov_unit_lit, Memref.IsWhole.read_unread, View.ld_unit_lit]
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact HS0

end Cert.Kernel.Body

end
-- ==== Proof.PlainFrame.lean ====
/- The proof data of the kernel's one pipeline, its run, and the frame claim. After the body at point `t` the codes,
   scales and scratch are the quantised block of `x` of the row block that `t` lies in; `y`'s buffer is the product over
   them. The run gives every array of the pipeline at what these data say. -/
module

public import proofs.«01_k».proof.Proof.PlainRun
public import Idealize.ShloMosaic.Lib.Claim
public import Idealize.ShloMosaic.Lib.Pipeline.ValueKit

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- It holds at the points ≡ 0 (mod 12) — by arithmetic of the point. -/
theorem hcond0_0 : ∀ t : Fin cfg0.N, cond0_0 (grid0.coords t) ↔ t.val % 12 = 0 :=
  (fun t => by
    have ht : t.val < 216 := Nat.lt_of_lt_of_eq t.isLt N_0
    have e0 : (grid0.coords t 0).val = t.val / 12 % 18 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The region invariant before position `n` with a scratch the kernel CARRIES between points: before the first point the
    class's (Lib/Pipeline/Frame.lean `ΦA`: every scratch at anything); afterwards the scoped rest with each carried scratch
    at what the point before left in it (the column of scales), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (colB (iblk m c 0 ⟨n, hn⟩))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (colB (iblk m c 0 ⟨n, hn⟩))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (colB (iblk m c 0 ⟨n - 1, by omega⟩))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at the contents `dats` names; the invariant the class's
    (`PhiS`: the class's `ΦA` before the first point, then the scoped rest with the carried scratch at that column);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (codesB (iblk m c 0 t)) (iblk m c 1 t) (colB (iblk m c 0 t)) (iblk m c 2 t) (iblk m c 3 t)
    | ⟨5, _⟩ => codesB (iblk m c 0 t)
    | ⟨6, _⟩ => rowsB (iblk m c 0 t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay5 (codesB (iblk m c 0 t)) (iblk m c 1 t) (colB (iblk m c 0 t)) (iblk m c 2 t) (iblk m c 3 t) := by dsimp only [dats]
theorem after0_5 (c : Dev nD) (t : Fin cfg0.N) : (dats m 0 c).after 5 t = codesB (iblk m c 0 t) := by dsimp only [dats]
theorem after0_6 (c : Dev nD) (t : Fin cfg0.N) : (dats m 0 c).after 6 t = rowsB (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Window 0's block does not change within a row block. -/
theorem iblk0_kept (c : Dev nD) (t : Fin cfg0.N) (h0 : ¬t.val % 12 = 0) :
    iblk m c 0 ⟨t.val - 1, Nat.lt_of_le_of_lt (Nat.sub_le _ _) t.isLt⟩ = iblk m c 0 t := by
  have hf : (cfg0.win 0).fetch t = false := Bool.eq_false_iff.mpr fun h => h0 ((fetch0_0 t).mp h)
  have h := (dats m 0 c).before_unfetched_in 0 rfl t hf (fun _ => rfl)
    ((dats m 0 c).after 0 ⟨t.val - 1, Nat.lt_of_le_of_lt (Nat.sub_le _ _) t.isLt⟩)
  rw [before0_0] at h
  unfold Dat.kept at h
  rw [Window.fill_cut] at h
  rw [h, after0_0]

/-- Outside the first point of a row block the body stores nothing into windows 5 and 6, and at the first point it does. -/
theorem idle0_5 (t : Fin cfg0.N) : cfg0.idle 5 (cfg0.grid.coords t) = !decide (t.val % 12 = 0) := by
  show (!decide (k0_cond1 (grid0.coords t) = 1#1)) = _
  rw [decide_eq_decide.mpr (hcond0_0 t)]
theorem idle0_6 (t : Fin cfg0.N) : cfg0.idle 6 (cfg0.grid.coords t) = !decide (t.val % 12 = 0) := idle0_5 t

/-- At the later points of a row block window 5's buffer holds the codes of the row block. -/
theorem before0_5_B (c : Dev nD) : ∀ (t : Fin cfg0.N) (h0 : ¬t.val % 12 = 0) (d),
    (dats m 0 c).before 5 t d = codesB (iblk m c 0 t) := by
  rintro ⟨n, hn⟩
  induction n with
  | zero => exact fun h0 => absurd (Nat.zero_mod _) h0
  | succ n ih =>
    intro h0 d
    have hk : iblk m c 0 ⟨n, Nat.lt_of_succ_lt hn⟩ = iblk m c 0 ⟨n + 1, hn⟩ := iblk0_kept m c ⟨n + 1, hn⟩ h0
    simp only at h0
    rw [Dat.before_of_pos _ 5 _ (Nat.succ_ne_zero n) ((cfg0.win 5).fetch_out rfl _), if_neg (fun h => by
      have := (flush0_5 _).mp h; simp only [Nat.add_sub_cancel] at this; omega)]
    show (dats m 0 c).left 5 ⟨n, Nat.lt_of_succ_lt hn⟩ d = _
    unfold Dat.left
    rw [idle0_5]
    by_cases h : n % 12 = 0
    · simp only [h, decide_true, Bool.not_true]
      unfold Dat.kept
      rw [Pipeline.fill_of_clip_none 5 _ (fun _ => rfl) d ((dats m 0 c).after 5 ⟨n, Nat.lt_of_succ_lt hn⟩), Window.fill_cut, after0_5, hk]
    · simp only [h, decide_false, Bool.not_false]
      rw [ih (Nat.lt_of_succ_lt hn) h d, hk]
/-- At the later points of a row block window 6's buffer holds the scales of the row block. -/
theorem before0_6_B (c : Dev nD) : ∀ (t : Fin cfg0.N) (h0 : ¬t.val % 12 = 0) (d),
    (dats m 0 c).before 6 t d = rowsB (iblk m c 0 t) := by
  rintro ⟨n, hn⟩
  induction n with
  | zero => exact fun h0 => absurd (Nat.zero_mod _) h0
  | succ n ih =>
    intro h0 d
    have hk : iblk m c 0 ⟨n, Nat.lt_of_succ_lt hn⟩ = iblk m c 0 ⟨n + 1, hn⟩ := iblk0_kept m c ⟨n + 1, hn⟩ h0
    simp only at h0
    rw [Dat.before_of_pos _ 6 _ (Nat.succ_ne_zero n) ((cfg0.win 6).fetch_out rfl _), if_neg (fun h => by
      have := (flush0_6 _).mp h; simp only [Nat.add_sub_cancel] at this; omega)]
    show (dats m 0 c).left 6 ⟨n, Nat.lt_of_succ_lt hn⟩ d = _
    unfold Dat.left
    rw [idle0_6]
    by_cases h : n % 12 = 0
    · simp only [h, decide_true, Bool.not_true]
      unfold Dat.kept
      rw [Pipeline.fill_of_clip_none 6 _ (fun _ => rfl) d ((dats m 0 c).after 6 ⟨n, Nat.lt_of_succ_lt hn⟩), Window.fill_cut, after0_6, hk]
    · simp only [h, decide_false, Bool.not_false]
      rw [ih (Nat.lt_of_succ_lt hn) h d, hk]

/-- The row block's codes in window 5's buffer are what the obligation asks for, stored at this point or kept. -/
theorem leaves0_5 (c : Dev nD) (t : Fin cfg0.N) :
    owns (c : Thread nD τ) (ms0_5 t) fullShare (codesB (iblk m c 0 t)) ⊢ ((dats m 0 c).leavesExact 5 t : sProp 𝕄) := by
  unfold Dat.leavesExact
  rw [idle0_5]
  by_cases h0 : t.val % 12 = 0
  · simp only [h0, decide_true, Bool.not_true]; rw [after0_5]
  · simp only [h0, decide_false, Bool.not_false]
    cases (cfg0.win 5).flush t
    · iintro H; iexists (codesB (iblk m c 0 t)); rw [before0_5_B m c t h0]; iexact H
    · dsimp only; rw [after0_5]
/-- The row block's scales in window 6's buffer are what the obligation asks for, stored at this point or kept. -/
theorem leaves0_6 (c : Dev nD) (t : Fin cfg0.N) :
    owns (c : Thread nD τ) (ms0_6 t) fullShare (rowsB (iblk m c 0 t)) ⊢ ((dats m 0 c).leavesExact 6 t : sProp 𝕄) := by
  unfold Dat.leavesExact
  rw [idle0_6]
  by_cases h0 : t.val % 12 = 0
  · simp only [h0, decide_true, Bool.not_true]; rw [after0_6]
  · simp only [h0, decide_false, Bool.not_false]
    cases (cfg0.win 6).flush t
    · iintro H; iexists (rowsB (iblk m c 0 t)); rw [before0_6_B m c t h0]; iexact H
    · dsimp only; rw [after0_6]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 216 := lt_of_lt_of_eq t.isLt (show cfg0.N = 216 from N_0)
  by_cases h0 : t.val % 12 = 0
  · by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6
  · by_cases hz : t.val = 0
    · exfalso; omega
    · rw [PhiS_castSucc m c t, PhiS_pos m c _ _ hz, iblk0_kept m c t h0]
      simp only [before0_5_B m c t h0, before0_6_B m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ (fun h => h0 ((hcond0_0 t).mp h)) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: what the carried scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 216 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.KernelSkeleton.lean ====
/- The kernel function of `KernelIdeal` split into its memory operations and the pure values between them: each
   value that a store writes is a definition (`k0_payN`) over the values loaded before it, and the printed function is
   the list of loads and stores over those names, by definition. -/
module

public import proofs.«01_k».proof.Proof.Gen.KernelIdeal

@[expose] public section

set_option synthInstance.maxSize 4096

noncomputable section

namespace Cert.KernelIdeal.Body

open Idealize.ShloMosaic Idealize.SL.Sem Cert.KernelIdeal.Gen

variable {F : FTy → Type} [FloatOps F]
/-! ## `cc0__linear_kernel` -/

/-- `%64 = tpu.bitcast %63 : vector<1024x1xi32> -> vector<1024x1xf32>` of `cc0__linear_kernel`, from
   the values read before it. Read by `k0_pay3`, `k0_pay4`. -/
noncomputable def k0_pay1 (v61 : IVec S1024x1 32) (c23_i32_26 : BitVec 32) : FVec F S1024x1 .f32 :=
  have v62 : IVec S1024x1 32 := broadcast S1024x1 c23_i32_26            -- %62 = vector.broadcast %c23_i32_26 : i32 to vector<1024x1xi32>  @ test_k:31
  have v63 : IVec S1024x1 32 := shli v61 v62                            -- %63 = arith.shli %61, %62 : vector<1024x1xi32>  @ test_k:31
  have v64 : FVec F S1024x1 .f32 := bitcastToFloat .f32 v63             -- %64 = tpu.bitcast %63 : vector<1024x1xi32> -> vector<1024x1xf32>  @ test_k:31
  v64

/-- `%82 = arith.truncf %81 : vector<1024x4096xf32> to vector<1024x4096xf8E4M3FN>` of
   `cc0__linear_kernel`, from the values read before it. Read by `tpu.vector_store %arg7[%c0_34,
   %c0_35], %82`. -/
noncomputable def k0_pay2 (v23 : FVec F S1024x4096 .f32) (v55 : IVec S1024x1 32) : FVec F S1024x4096 .fp8e4m3 :=
  have v65 : IVec S1024x1 32 := broadcast S1024x1 0#32                  -- %65 = vector.broadcast %c0_i32_27 : i32 to vector<1024x1xi32>  @ test_k:40
  have v66 : IVec S1024x1 32 := subi v65 v55                            -- %66 = arith.subi %65, %55 : vector<1024x1xi32>  @ test_k:40
  have v67 : IVec S1024x1 32 := broadcast S1024x1 127#32                -- %67 = vector.broadcast %c127_i32_28 : i32 to vector<1024x1xi32>  @ test_k:31
  have v68 : IVec S1024x1 32 := addi v66 v67                            -- %68 = arith.addi %66, %67 : vector<1024x1xi32>  @ test_k:31
  have v69 : IVec S1024x1 32 := broadcast S1024x1 0#32                  -- %69 = vector.broadcast %c0_i32_29 : i32 to vector<1024x1xi32>
  have v70 : IVec S1024x1 32 := maxsi v69 v68                           -- %70 = arith.maxsi %69, %68 : vector<1024x1xi32>
  have v71 : IVec S1024x1 32 := broadcast S1024x1 255#32                -- %71 = vector.broadcast %c255_i32_30 : i32 to vector<1024x1xi32>
  have v72 : IVec S1024x1 32 := minsi v71 v70                           -- %72 = arith.minsi %71, %70 : vector<1024x1xi32>
  have v73 : IVec S1024x1 32 := broadcast S1024x1 23#32                 -- %73 = vector.broadcast %c23_i32_31 : i32 to vector<1024x1xi32>  @ test_k:31
  have v74 : IVec S1024x1 32 := shli v72 v73                            -- %74 = arith.shli %72, %73 : vector<1024x1xi32>  @ test_k:31
  have v75 : FVec F S1024x1 .f32 := bitcastToFloat .f32 v74             -- %75 = tpu.bitcast %74 : vector<1024x1xi32> -> vector<1024x1xf32>  @ test_k:31
  have v76 : FVec F S1024x4096 .f32 := broadcastTo S1024x4096 v75 broadcasts_S1024x1_S1024x4096 -- %76 = vector.broadcast %75 : vector<1024x1xf32> to vector<1024x4096xf32>  @ test_k:41
  have v77 : FVec F S1024x4096 .f32 := mulf v23 v76                     -- %77 = arith.mulf %23, %76 : vector<1024x4096xf32>  @ test_k:41
  have cst_32 : F .f32 := Scalar.ofBits .f32 0xC3E00000#32              -- %cst_32 = arith.constant -4.480000e+02 : f32
  have cst_33 : F .f32 := Scalar.ofBits .f32 0x43E00000#32              -- %cst_33 = arith.constant 4.480000e+02 : f32
  have v78 : FVec F S1024x4096 .f32 := broadcast S1024x4096 cst_32      -- %78 = vector.broadcast %cst_32 : f32 to vector<1024x4096xf32>
  have v79 : FVec F S1024x4096 .f32 := maximumf v78 v77                 -- %79 = arith.maximumf %78, %77 : vector<1024x4096xf32>
  have v80 : FVec F S1024x4096 .f32 := broadcast S1024x4096 cst_33      -- %80 = vector.broadcast %cst_33 : f32 to vector<1024x4096xf32>
  have v81 : FVec F S1024x4096 .f32 := minimumf v80 v79                 -- %81 = arith.minimumf %80, %79 : vector<1024x4096xf32>
  have v82 : FVec F S1024x4096 .fp8e4m3 := truncf .fp8e4m3 v81 bitsLt_fp8e4m3_f32 -- %82 = arith.truncf %81 : vector<1024x4096xf32> to vector<1024x4096xf8E4M3FN>  @ test_k:41
  v82

/-- `%86 = vector.shape_cast %64 : vector<1024x1xf32> to vector<1024x1xf32>` of
   `cc0__linear_kernel`, from the values read before it. Read by `tpu.vector_store %arg9[%c0_36,
   %c0_37], %86`. -/
noncomputable def k0_pay3 (v61 : IVec S1024x1 32) (c23_i32_26 : BitVec 32) : FVec F S1024x1 .f32 :=
  have v86 : FVec F S1024x1 .f32 := shapeCast S1024x1 (k0_pay1 (F := F) v61 c23_i32_26) shapeCasts_S1024x1_S1024x1 -- %86 = vector.shape_cast %64 : vector<1024x1xf32> to vector<1024x1xf32>  @ test_k:58
  v86

/-- `%95 = vector.multi_reduction <add>, %94, %cst_39 [1] : vector<8x128x128xf32> to
   vector<8x128xf32>` of `cc0__linear_kernel`, from the values read before it. Read by
   `tpu.vector_store %arg8[%c0_40, %c0_41], %95`. -/
noncomputable def k0_pay4 (v61 : IVec S1024x1 32) (c23_i32_26 : BitVec 32) : FVec F S8x128 .f32 :=
  have v87 : FVec F S1024x1 .f32 := shapeCast S1024x1 (k0_pay1 (F := F) v61 c23_i32_26) shapeCasts_S1024x1_S1024x1 -- %87 = vector.shape_cast %64 : vector<1024x1xf32> to vector<1024x1xf32>  @ test_k:47
  have v88 : FVec F S1024x128 .f32 := broadcastTo S1024x128 v87 broadcasts_S1024x1_S1024x128 -- %88 = vector.broadcast %87 : vector<1024x1xf32> to vector<1024x128xf32>  @ test_k:47
  have v89 : FVec F S8x128x128 .f32 := shapeCast S8x128x128 v88 shapeCasts_S1024x128_S8x128x128 -- %89 = vector.shape_cast %88 : vector<1024x128xf32> to vector<8x128x128xf32>  @ test_k:47
  have v90 : IVec S8x128x128 32 := iota .tc S8x128x128 32 [1] iota_S8x128x128_d1_w32 -- %90 = tpu.iota {dimensions = array<i32: 1>} : vector<8x128x128xi32>  @ test_k:48
  have v91 : IVec S8x128x128 32 := iota .tc S8x128x128 32 [2] iota_S8x128x128_d2_w32 -- %91 = tpu.iota {dimensions = array<i32: 2>} : vector<8x128x128xi32>  @ test_k:49
  have v92 : IVec S8x128x128 1 := cmpi .eq v90 v91                      -- %92 = arith.cmpi eq, %90, %91 : vector<8x128x128xi32>  @ test_k:48
  have cst_38 : F .f32 := Scalar.ofBits .f32 0x00000000#32              -- %cst_38 = arith.constant 0.000000e+00 : f32
  have v93 : FVec F S8x128x128 .f32 := broadcast S8x128x128 cst_38      -- %93 = vector.broadcast %cst_38 : f32 to vector<8x128x128xf32>
  have v94 : FVec F S8x128x128 .f32 := select v92 v89 v93               -- %94 = arith.select %92, %89, %93 : vector<8x128x128xi1>, vector<8x128x128xf32>
  have v95 : FVec F S8x128 .f32 := multiReduction .add [1] S8x128 v94 0x00000000#32 reduces_S8x128x128_S8x128 (.inl rfl) rfl -- %95 = vector.multi_reduction <add>, %94, %cst_39 [1] : vector<8x128x128xf32> to vector<8x128xf32>  @ test_k:50
  v95

/-- `%19 = arith.truncf %18 : vector<128x8x1024xf32> to vector<128x8x1024xbf16>` of
   `cc0__linear_kernel`, from the values read before it. Read by `tpu.vector_store %arg6[%c0_10,
   %c0_11, %c0_12], %19`. -/
noncomputable def k0_pay5 (v3 : Vec F S1024x4096 .fp8e4m3) (v5 : Vec F S1024x4096 .fp8e4m3) (v7 : Vec F S1024x1 .f32) (v10 : Vec F S1x1024 .f32) (v14 : Vec F S1x1024 .f32) : FVec F S128x8x1024 .bf16 :=
  have v4 : FVec F S1024x4096 .fp8e4m3 := shapeCast S1024x4096 v3 shapeCasts_S1024x4096_S1024x4096 -- %4 = vector.shape_cast %3 : vector<1024x4096xf8E4M3FN> to vector<1024x4096xf8E4M3FN>  @ test_k:61
  have cst : FVec F S1024x1024 .f32 := constant S1024x1024 .f32 0x00000000#32 -- %cst = arith.constant dense<0.000000e+00> : vector<1024x1024xf32>
  have v6 : FVec F S1024x1024 .f32 := matmul dot_S1024x4096_S1024x4096_S1024x1024_1_1_0_0_n_n none v4 v5 cst -- %6 = tpu.matmul %4, %5, %cst {dimension_numbers = #tpu.dot_dimension_numbers<[1], [1], [0], [0], [0, 0, 1, 0], [], []>, transpose_lhs_hint = false} : vector<1024x4096xf8E4M3FN>, vector<1024x4096xf8E4M3FN>, vector<1024x1024xf32> -> vector<1024x1024xf32>  @ test_k:61
  have v8 : FVec F S1024x1024 .f32 := broadcastTo S1024x1024 v7 broadcasts_S1024x1_S1024x1024 -- %8 = vector.broadcast %7 : vector<1024x1xf32> to vector<1024x1024xf32>  @ test_k:63
  have v9 : FVec F S1024x1024 .f32 := mulf v6 v8                        -- %9 = arith.mulf %6, %8 : vector<1024x1024xf32>  @ test_k:63
  have v11 : FVec F S1x1024 .f32 := shapeCast S1x1024 v10 shapeCasts_S1x1024_S1x1024 -- %11 = vector.shape_cast %10 : vector<1x1024xf32> to vector<1x1024xf32>  @ test_k:63
  have v12 : FVec F S1024x1024 .f32 := broadcastTo S1024x1024 v11 broadcasts_S1x1024_S1024x1024 -- %12 = vector.broadcast %11 : vector<1x1024xf32> to vector<1024x1024xf32>  @ test_k:63
  have v13 : FVec F S1024x1024 .f32 := mulf v9 v12                      -- %13 = arith.mulf %9, %12 : vector<1024x1024xf32>  @ test_k:63
  have v15 : FVec F S1x1024 .f32 := shapeCast S1x1024 v14 shapeCasts_S1x1024_S1x1024 -- %15 = vector.shape_cast %14 : vector<1x1024xf32> to vector<1x1024xf32>  @ test_k:63
  have v16 : FVec F S1024x1024 .f32 := broadcastTo S1024x1024 v15 broadcasts_S1x1024_S1024x1024 -- %16 = vector.broadcast %15 : vector<1x1024xf32> to vector<1024x1024xf32>  @ test_k:63
  have v17 : FVec F S1024x1024 .f32 := addf v13 v16                     -- %17 = arith.addf %13, %16 : vector<1024x1024xf32>  @ test_k:63
  have v18 : FVec F S128x8x1024 .f32 := shapeCast S128x8x1024 v17 shapeCasts_S1024x1024_S128x8x1024 -- %18 = vector.shape_cast %17 : vector<1024x1024xf32> to vector<128x8x1024xf32>  @ test_k:64
  have v19 : FVec F S128x8x1024 .bf16 := truncf .bf16 v18 bitsLt_bf16_f32 -- %19 = arith.truncf %18 : vector<128x8x1024xf32> to vector<128x8x1024xbf16>  @ test_k:64
  v19

/-- `%23 = arith.extf %22 : vector<1024x4096xbf16> to vector<1024x4096xf32>` of `k0_part1`, from the
   values read before it. Read by the loop's rebinding, condition or exit; `k0_pay7`. -/
noncomputable def k0_pay6 (v21 : Vec F S1024x4096 .bf16) : FVec F S1024x4096 .f32 :=
  have v22 : FVec F S1024x4096 .bf16 := shapeCast S1024x4096 v21 shapeCasts_S1024x4096_S1024x4096 -- %22 = vector.shape_cast %21 : vector<1024x4096xbf16> to vector<1024x4096xbf16>  @ test_k:56
  have v23 : FVec F S1024x4096 .f32 := extf .f32 v22 bitsLt_bf16_f32    -- %23 = arith.extf %22 : vector<1024x4096xbf16> to vector<1024x4096xf32>  @ test_k:35
  v23

/-- `%55 = arith.select %53, %54, %51 : vector<1024x1xi1>, vector<1024x1xi32>` of `k0_part1`, from
   the values read before it. Read by the loop's rebinding, condition or exit; `k0_pay8`. -/
noncomputable def k0_pay7 (v21 : Vec F S1024x4096 .bf16) : IVec S1024x1 32 :=
  have v24 : FVec F S1024x4096 .f32 := absf (k0_pay6 v21)               -- %24 = math.absf %23 : vector<1024x4096xf32>  @ test_k:36
  have v25 : FVec F S1024 .f32 := multiReduction .maximumf [1] S1024 v24 0xFF800000#32 reduces_S1024x4096_S1024 (.inl rfl) rfl -- %25 = vector.multi_reduction <maximumf>, %24, %cst_15 [1] : vector<1024x4096xf32> to vector<1024xf32>  @ test_k:36
  have v26 : FVec F S1024x1 .f32 := shapeCast S1024x1 v25 shapeCasts_S1024_S1024x1 -- %26 = vector.shape_cast %25 : vector<1024xf32> to vector<1024x1xf32>  @ test_k:36
  have cst_16 : F .f32 := Scalar.ofBits .f32 0x3B124925#32              -- %cst_16 = arith.constant 0.00223214296 : f32
  have v27 : FVec F S1024x1 .f32 := broadcast S1024x1 cst_16            -- %27 = vector.broadcast %cst_16 : f32 to vector<1024x1xf32>  @ test_k:37
  have v28 : FVec F S1024x1 .f32 := mulf v26 v27                        -- %28 = arith.mulf %26, %27 : vector<1024x1xf32>  @ test_k:37
  have v29 : IVec S1024x256 32 := iota .tc S1024x256 32 [1] iota_S1024x256_d1_w32 -- %29 = tpu.iota {dimensions = array<i32: 1>} : vector<1024x256xi32>  @ test_k:23
  have v30 : IVec S1024x256 32 := broadcast S1024x256 23#32             -- %30 = vector.broadcast %c23_i32 : i32 to vector<1024x256xi32>  @ test_k:24
  have v31 : IVec S1024x256 32 := shli v29 v30                          -- %31 = arith.shli %29, %30 : vector<1024x256xi32>  @ test_k:24
  have v32 : FVec F S1024x256 .f32 := bitcastToFloat .f32 v31           -- %32 = tpu.bitcast %31 : vector<1024x256xi32> -> vector<1024x256xf32>  @ test_k:24
  have v33 : FVec F S1024x1 .f32 := absf v28                            -- %33 = math.absf %28 : vector<1024x1xf32>  @ test_k:25
  have v34 : FVec F S1024x256 .f32 := broadcastTo S1024x256 v33 broadcasts_S1024x1_S1024x256 -- %34 = vector.broadcast %33 : vector<1024x1xf32> to vector<1024x256xf32>  @ test_k:25
  have v35 : IVec S1024x256 1 := cmpf .oge v34 v32                      -- %35 = arith.cmpf oge, %34, %32 : vector<1024x256xf32>  @ test_k:25
  have v36 : IVec S1024x256 32 := broadcast S1024x256 1#32              -- %36 = vector.broadcast %c1_i32 : i32 to vector<1024x256xi32>
  have v37 : IVec S1024x256 32 := broadcast S1024x256 0#32              -- %37 = vector.broadcast %c0_i32_17 : i32 to vector<1024x256xi32>
  have v38 : IVec S1024x256 32 := select v35 v36 v37                    -- %38 = arith.select %35, %36, %37 : vector<1024x256xi1>, vector<1024x256xi32>
  have v39 : IVec S1024 32 := multiReductionI .add [1] S1024 v38 0#32 reduces_S1024x256_S1024 rfl -- %39 = vector.multi_reduction <add>, %38, %cst_18 [1] : vector<1024x256xi32> to vector<1024xi32>  @ test_k:25
  have v40 : IVec S1024x1 32 := shapeCast S1024x1 v39 shapeCasts_S1024_S1024x1 -- %40 = vector.shape_cast %39 : vector<1024xi32> to vector<1024x1xi32>  @ test_k:25
  have v41 : IVec S1024x1 32 := broadcast S1024x1 1#32                  -- %41 = vector.broadcast %c1_i32_19 : i32 to vector<1024x1xi32>  @ test_k:25
  have v42 : IVec S1024x1 32 := subi v40 v41                            -- %42 = arith.subi %40, %41 : vector<1024x1xi32>  @ test_k:25
  have v43 : IVec S1024x1 32 := broadcast S1024x1 0#32                  -- %43 = vector.broadcast %c0_i32_20 : i32 to vector<1024x1xi32>  @ test_k:26
  have v44 : IVec S1024x1 1 := cmpi .sle v42 v43                        -- %44 = arith.cmpi sle, %42, %43 : vector<1024x1xi32>  @ test_k:26
  have v45 : IVec S1024x1 32 := broadcast S1024x1 255#32                -- %45 = vector.broadcast %c255_i32 : i32 to vector<1024x1xi32>  @ test_k:26
  have v46 : IVec S1024x1 1 := cmpi .eq v42 v45                         -- %46 = arith.cmpi eq, %42, %45 : vector<1024x1xi32>  @ test_k:26
  have v47 : IVec S1024x1 1 := ori v44 v46                              -- %47 = arith.ori %44, %46 : vector<1024x1xi1>  @ test_k:26
  have v48 : IVec S1024x1 32 := broadcast S1024x1 126#32                -- %48 = vector.broadcast %c126_i32 : i32 to vector<1024x1xi32>  @ test_k:26
  have v49 : IVec S1024x1 32 := subi v42 v48                            -- %49 = arith.subi %42, %48 : vector<1024x1xi32>  @ test_k:26
  have v50 : IVec S1024x1 32 := broadcast S1024x1 0#32                  -- %50 = vector.broadcast %c0_i32_21 : i32 to vector<1024x1xi32>
  have v51 : IVec S1024x1 32 := select v47 v50 v49                      -- %51 = arith.select %47, %50, %49 : vector<1024x1xi1>, vector<1024x1xi32>
  have cst_22 : F .f32 := Scalar.ofBits .f32 0x00000000#32              -- %cst_22 = arith.constant 0.000000e+00 : f32
  have v52 : FVec F S1024x1 .f32 := broadcast S1024x1 cst_22            -- %52 = vector.broadcast %cst_22 : f32 to vector<1024x1xf32>  @ test_k:38
  have v53 : IVec S1024x1 1 := cmpf .oeq v26 v52                        -- %53 = arith.cmpf oeq, %26, %52 : vector<1024x1xf32>  @ test_k:38
  have v54 : IVec S1024x1 32 := broadcast S1024x1 0#32                  -- %54 = vector.broadcast %c0_i32_23 : i32 to vector<1024x1xi32>
  have v55 : IVec S1024x1 32 := select v53 v54 v51                      -- %55 = arith.select %53, %54, %51 : vector<1024x1xi1>, vector<1024x1xi32>
  v55

/-- `%61 = arith.minsi %60, %59 : vector<1024x1xi32>` of `k0_part1`, from the values read before it.
   Read by the loop's rebinding, condition or exit. -/
noncomputable def k0_pay8 (v21 : Vec F S1024x4096 .bf16) : IVec S1024x1 32 :=
  have v56 : IVec S1024x1 32 := broadcast S1024x1 127#32                -- %56 = vector.broadcast %c127_i32 : i32 to vector<1024x1xi32>  @ test_k:31
  have v57 : IVec S1024x1 32 := addi (k0_pay7 v21) v56                  -- %57 = arith.addi %55, %56 : vector<1024x1xi32>  @ test_k:31
  have v58 : IVec S1024x1 32 := broadcast S1024x1 0#32                  -- %58 = vector.broadcast %c0_i32_24 : i32 to vector<1024x1xi32>
  have v59 : IVec S1024x1 32 := maxsi v58 v57                           -- %59 = arith.maxsi %58, %57 : vector<1024x1xi32>
  have v60 : IVec S1024x1 32 := broadcast S1024x1 255#32                -- %60 = vector.broadcast %c255_i32_25 : i32 to vector<1024x1xi32>
  have v61 : IVec S1024x1 32 := minsi v60 v59                           -- %61 = arith.minsi %60, %59 : vector<1024x1xi32>
  v61

/-- `cc0__linear_kernel` as a skeleton of memory operations over payloads. -/
noncomputable def cc0__linear_kernel_skel (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) :
    Prog (TpuEff nD τ sig (Elt F) Λ₀ .tc) PUnit := do
  if k0_h1 : k0_cond1 i = 1#1 then do                                   -- scf.if %2 {  @ test_k:54
    let ⟨v23, v55, v61, c23_i32_26⟩ : Σ' (v23 : FVec F S1024x4096 .f32) (v55 : IVec S1024x1 32) (v61 : IVec S1024x1 32), BitVec 32 ← k0_part1 i arg2 harg2 arg3 harg3 arg4 harg4 arg5 harg5 arg6 harg6 arg7 harg7 arg8 harg8 arg9 harg9 -- statements 1–60 of 114: their part
    let v83 : Vec F S1024x4096 .fp8e4m3 ← Prog.lift (.load arg7 (Rect.unit (s := S1024x4096) ![0, 0] S1024x4096.size inb_S1024x4096_S1024x4096_0_0).toLoadRect (View.loadsAt_vmem h_S1024x4096)) -- %83 = vector.load %arg7[%c0_34, %c0_35] : memref<1024x4096xf8E4M3FN, #tpu.memory_space<vmem>>, vector<1024x4096xf8E4M3FN>  @ test_k:57
    Prog.lift (.store arg7 (Rect.unit (s := S1024x4096) ![0, 0] S1024x4096.size inb_S1024x4096_S1024x4096_0_0) (k0_pay2 v23 v55) Finset.univ (View.stores_vmem h_S1024x4096 (harg7.storeExact_slice rfl _ packedfp8e4m3_S1024x4096_S1024x4096_0_0) (fun _ => rfl)) (.inl rfl)) -- tpu.vector_store %arg7[%c0_34, %c0_35], %82 {strides = array<i32>} : memref<1024x4096xf8E4M3FN, #tpu.memory_space<vmem>>, vector<1024x4096xf8E4M3FN>,  @ test_k:57
    let v84 : Vec F S1024x1 .f32 ← Prog.lift (.load arg9 (Rect.unit (s := S1024x1) ![0, 0] S1024x1.size inb_S1024x1_S1024x1_0_0).toLoadRect (View.loadsAt_vmem h_S1024x1)) -- %84 = vector.load %arg9[%c0_36, %c0_37] : memref<1024x1xf32, #tpu.memory_space<vmem>>, vector<1024x1xf32>  @ test_k:58
    Prog.lift (.store arg9 (Rect.unit (s := S1024x1) ![0, 0] S1024x1.size inb_S1024x1_S1024x1_0_0) (k0_pay3 (F := F) v61 c23_i32_26) Finset.univ (View.stores_vmem_bits_univ h_S1024x1 rfl) (.inl rfl)) -- tpu.vector_store %arg9[%c0_36, %c0_37], %86 {strides = array<i32>} : memref<1024x1xf32, #tpu.memory_space<vmem>>, vector<1024x1xf32>,  @ test_k:58
    let v96 : Vec F S8x128 .f32 ← Prog.lift (.load arg8 (Rect.unit (s := S8x128) ![0, 0] S8x128.size inb_S8x128_S8x128_0_0).toLoadRect (View.loadsAt_vmem h_S8x128)) -- %96 = vector.load %arg8[%c0_40, %c0_41] : memref<8x128xf32, #tpu.memory_space<vmem>>, vector<8x128xf32>  @ test_k:59
    Prog.lift (.store arg8 (Rect.unit (s := S8x128) ![0, 0] S8x128.size inb_S8x128_S8x128_0_0) (k0_pay4 (F := F) v61 c23_i32_26) Finset.univ (View.stores_vmem_bits_univ h_S8x128 rfl) (.inl rfl)) -- tpu.vector_store %arg8[%c0_40, %c0_41], %95 {strides = array<i32>} : memref<8x128xf32, #tpu.memory_space<vmem>>, vector<8x128xf32>,  @ test_k:59
    pure ⟨⟩                                                             -- scf.yield / }
  else do                                                               -- } else {
    pure ⟨⟩                                                             -- scf.yield / }
  let v3 : Vec F S1024x4096 .fp8e4m3 ← Prog.lift (.load arg7 (Rect.unit (s := S1024x4096) ![0, 0] S1024x4096.size inb_S1024x4096_S1024x4096_0_0).toLoadRect (View.loadsAt_vmem h_S1024x4096)) -- %3 = vector.load %arg7[%c0, %c0_1] : memref<1024x4096xf8E4M3FN, #tpu.memory_space<vmem>>, vector<1024x4096xf8E4M3FN>  @ test_k:61
  let v5 : Vec F S1024x4096 .fp8e4m3 ← Prog.lift (.load arg3 (Rect.unit (s := S1024x4096) ![0, 0] S1024x4096.size inb_S1024x4096_S1024x4096_0_0).toLoadRect (View.loadsAt_vmem h_S1024x4096)) -- %5 = vector.load %arg3[%c0_2, %c0_3] : memref<1024x4096xf8E4M3FN, #tpu.memory_space<vmem>>, vector<1024x4096xf8E4M3FN>  @ test_k:61
  let v7 : Vec F S1024x1 .f32 ← Prog.lift (.load arg9 (Rect.unit (s := S1024x1) ![0, 0] S1024x1.size inb_S1024x1_S1024x1_0_0).toLoadRect (View.loadsAt_vmem h_S1024x1)) -- %7 = vector.load %arg9[%c0_4, %c0_5] : memref<1024x1xf32, #tpu.memory_space<vmem>>, vector<1024x1xf32>  @ test_k:63
  let v10 : Vec F S1x1024 .f32 ← Prog.lift (.load arg4 (Rect.unit (s := S1x1024) ![0, 0] S1x1024.size inb_S1x1024_S1x1024_0_0).toLoadRect (View.loadsAt_vmem h_S1x1024)) -- %10 = vector.load %arg4[%c0_6, %c0_7] : memref<1x1024xf32, #tpu.memory_space<vmem>>, vector<1x1024xf32>  @ test_k:63
  let v14 : Vec F S1x1024 .f32 ← Prog.lift (.load arg5 (Rect.unit (s := S1x1024) ![0, 0] S1x1024.size inb_S1x1024_S1x1024_0_0).toLoadRect (View.loadsAt_vmem h_S1x1024)) -- %14 = vector.load %arg5[%c0_8, %c0_9] : memref<1x1024xf32, #tpu.memory_space<vmem>>, vector<1x1024xf32>  @ test_k:63
  let v20 : Vec F S128x8x1024 .bf16 ← Prog.lift (.load arg6 (Rect.unit (s := S128x8x1024) ![0, 0, 0] S128x8x1024.size inb_S128x8x1024_S128x8x1024_0_0_0).toLoadRect (View.loadsAt_vmem h_S128x8x1024)) -- %20 = vector.load %arg6[%c0_10, %c0_11, %c0_12] : memref<128x8x1024xbf16, #tpu.memory_space<vmem>>, vector<128x8x1024xbf16>  @ test_k:64
  Prog.lift (.store arg6 (Rect.unit (s := S128x8x1024) ![0, 0, 0] S128x8x1024.size inb_S128x8x1024_S128x8x1024_0_0_0) (k0_pay5 v3 v5 v7 v10 v14) Finset.univ (View.stores_vmem h_S128x8x1024 (harg6.storeExact_slice rfl _ packedbf16_S128x8x1024_S128x8x1024_0_0_0) (fun _ => rfl)) (.inl rfl)) -- tpu.vector_store %arg6[%c0_10, %c0_11, %c0_12], %19 {strides = array<i32>} : memref<128x8x1024xbf16, #tpu.memory_space<vmem>>, vector<128x8x1024xbf16>,  @ test_k:64
  pure ⟨⟩                                                               -- func.return

set_option maxRecDepth 65536 in
/-- The printed `cc0__linear_kernel` is its skeleton: by definitional unfolding. -/
theorem cc0__linear_kernel_eq_skeleton : cc0__linear_kernel (F := F) = cc0__linear_kernel_skel (F := F) := rfl

/-- `k0_part1` as a skeleton of memory operations over payloads. -/
noncomputable def k0_part1_skel (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) :
    Prog (TpuEff nD τ sig (Elt F) Λ₀ .tc) (Σ' (v23 : FVec F S1024x4096 .f32) (v55 : IVec S1024x1 32) (v61 : IVec S1024x1 32), BitVec 32) := do
  let v21 : Vec F S1024x4096 .bf16 ← Prog.lift (.load arg2 (Rect.unit (s := S1024x4096) ![0, 0] S1024x4096.size inb_S1024x4096_S1024x4096_0_0).toLoadRect (View.loadsAt_vmem h_S1024x4096)) -- %21 = vector.load %arg2[%c0_13, %c0_14] : memref<1024x4096xbf16, #tpu.memory_space<vmem>>, vector<1024x4096xbf16>  @ test_k:56
  pure ⟨k0_pay6 v21, k0_pay7 v21, k0_pay8 v21, 23#32⟩

set_option maxRecDepth 65536 in
/-- The printed `k0_part1` is its skeleton: by definitional unfolding. -/
theorem k0_part1_eq_skeleton : k0_part1 (F := F) = k0_part1_skel (F := F) := rfl

end Cert.KernelIdeal.Body

end
-- ==== Proof.KernelRun.lean ====
/- What one run of the kernel body does, at any values: at the first point of a row block it quantises the block of
   `x`, stores codes and scales, and writes the product; at the other points it writes the product of the codes and
   scales it finds. -/
module

public import proofs.«01_k».proof.Proof.KernelSkeleton
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The codes of a block of `x`. -/
def codesB (x0 : Vec F S1024x4096 .bf16) : Vec F S1024x4096 .fp8e4m3 := k0_pay2 (k0_pay6 x0) (k0_pay7 x0)
/-- The scales of a block of `x`, as a column (the scratch). -/
def colB (x0 : Vec F S1024x4096 .bf16) : Vec F S1024x1 .f32 := k0_pay3 (k0_pay8 x0) 23#32
/-- The scales of a block of `x`, 128 to a row (the third result). -/
def rowsB (x0 : Vec F S1024x4096 .bf16) : Vec F S8x128 .f32 := k0_pay4 (k0_pay8 x0) 23#32

/-- The condition of the body's branch. -/
abbrev cond0_0 (i : grid0.Coords) : Prop := k0_cond1 i = 1#1

set_option maxHeartbeats 1000000 in
/-- The body at the first point of a row block. -/
theorem run_A (c : Dev nD) (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) (hc0 : cond0_0 i)
    (x0 : Vec F S1024x4096 .bf16) (x1 : Vec F S1024x4096 .fp8e4m3) (x2 : Vec F S1x1024 .f32) (x3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (codesB x0) x1 (colB x0) x2 x3) ∗ owns (c : Thread nD τ) arg7 fullShare (codesB x0) ∗ owns (c : Thread nD τ) arg8 fullShare (rowsB x0) ∗ owns (c : Thread nD τ) arg9 fullShare (colB x0)) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K := by
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro; refine (View.read_writes_full _ _ _ _ _).trans ?_; sl_unfold_words; simp (disch := decide) only [View.readAt_eq_ld, View.readCov_unit_lit, Memref.IsWhole.read_unread, View.ld_unit_lit]; rfl
    isplitl [H5]
    · iexists _; isplitr
      swap; · iexact H5
      ipureintro; refine (View.read_writes_full _ _ _ _ _).trans ?_; sl_unfold_words; simp (disch := decide) only [View.readAt_eq_ld, View.readCov_unit_lit, Memref.IsWhole.read_unread, View.ld_unit_lit]; rfl
    isplitl [H6]
    · iexists _; isplitr
      swap; · iexact H6
      ipureintro; refine (View.read_writes_full _ _ _ _ _).trans ?_; sl_unfold_words; simp (disch := decide) only [View.readAt_eq_ld, View.readCov_unit_lit, Memref.IsWhole.read_unread, View.ld_unit_lit]; rfl
    iexists _; isplitr
    swap; · iexact HS0
    ipureintro; refine (View.read_writes_full _ _ _ _ _).trans ?_; sl_unfold_words; simp (disch := decide) only [View.readAt_eq_ld, View.readCov_unit_lit, Memref.IsWhole.read_unread, View.ld_unit_lit]; rfl

set_option maxHeartbeats 1000000 in
/-- The body at a later point of a row block. -/
theorem run_B (c : Dev nD) (i : grid0.Coords) (arg2 : Memref sig .tc .vmem S1024x4096 .bf16) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x8x1024 .bf16) (harg6 : arg6.IsWhole) (arg7 : Memref sig .tc .vmem S1024x4096 .fp8e4m3) (harg7 : arg7.IsWhole) (arg8 : Memref sig .tc .vmem S8x128 .f32) (harg8 : arg8.IsWhole) (arg9 : Memref sig .tc .vmem S1024x1 .f32) (harg9 : arg9.IsWhole) (hc0 : ¬cond0_0 i)
    (x0 : Vec F S1024x4096 .bf16) (x1 : Vec F S1024x4096 .fp8e4m3) (x2 : Vec F S1x1024 .f32) (x3 : Vec F S1x1024 .f32) (xo5 : Vec F S1024x4096 .fp8e4m3) (xo6 : Vec F S8x128 .f32) (xs0 : Vec F S1024x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 xo5 x1 xs0 x2 x3) ∗ owns (c : Thread nD τ) arg7 fullShare xo5 ∗ owns (c : Thread nD τ) arg8 fullShare xo6 ∗ owns (c : Thread nD τ) arg9 fullShare xs0) -∗ K ⟨⟩))
          ⊢ wp frame (wpE (defs₀ (F := F)) Variants.none c none) E (cc0__linear_kernel i arg2 harg2 arg3 harg3 arg4 harg4 arg5 harg5 arg6 harg6 arg7 harg7 arg8 harg8 arg9 harg9) K := by
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro; refine (View.read_writes_full _ _ _ _ _).trans ?_; sl_unfold_words; simp (disch := decide) only [View.readAt_eq_ld, View.readCov_unit_lit, Memref.IsWhole.read_unread, View.ld_unit_lit]
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact HS0

end Cert.KernelIdeal.Body

end
-- ==== Proof.KernelFrame.lean ====
/- The proof data of the kernel's one pipeline, its run, and the frame claim. After the body at point `t` the codes,
   scales and scratch are the quantised block of `x` of the row block that `t` lies in; `y`'s buffer is the product over
   them. The run gives every array of the pipeline at what these data say. -/
module

public import proofs.«01_k».proof.Proof.KernelRun
public import Idealize.ShloMosaic.Lib.Claim
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- It holds at the points ≡ 0 (mod 12) — by arithmetic of the point. -/
theorem hcond0_0 : ∀ t : Fin cfg0.N, cond0_0 (grid0.coords t) ↔ t.val % 12 = 0 :=
  (fun t => by
    have ht : t.val < 216 := Nat.lt_of_lt_of_eq t.isLt N_0
    have e0 : (grid0.coords t 0).val = t.val / 12 % 18 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The region invariant before position `n` with a scratch the kernel CARRIES between points: before the first point the
    class's (Lib/Pipeline/Frame.lean `ΦA`: every scratch at anything); afterwards the scoped rest with each carried scratch
    at what the point before left in it (the column of scales), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (colB (iblk m c 0 ⟨n, hn⟩))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (colB (iblk m c 0 ⟨n, hn⟩))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (colB (iblk m c 0 ⟨n - 1, by omega⟩))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at the contents `dats` names; the invariant the class's
    (`PhiS`: the class's `ΦA` before the first point, then the scoped rest with the carried scratch at that column);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (codesB (iblk m c 0 t)) (iblk m c 1 t) (colB (iblk m c 0 t)) (iblk m c 2 t) (iblk m c 3 t)
    | ⟨5, _⟩ => codesB (iblk m c 0 t)
    | ⟨6, _⟩ => rowsB (iblk m c 0 t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay5 (codesB (iblk m c 0 t)) (iblk m c 1 t) (colB (iblk m c 0 t)) (iblk m c 2 t) (iblk m c 3 t) := by dsimp only [dats]
theorem after0_5 (c : Dev nD) (t : Fin cfg0.N) : (dats m 0 c).after 5 t = codesB (iblk m c 0 t) := by dsimp only [dats]
theorem after0_6 (c : Dev nD) (t : Fin cfg0.N) : (dats m 0 c).after 6 t = rowsB (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Window 0's block does not change within a row block. -/
theorem iblk0_kept (c : Dev nD) (t : Fin cfg0.N) (h0 : ¬t.val % 12 = 0) :
    iblk m c 0 ⟨t.val - 1, Nat.lt_of_le_of_lt (Nat.sub_le _ _) t.isLt⟩ = iblk m c 0 t := by
  have hf : (cfg0.win 0).fetch t = false := Bool.eq_false_iff.mpr fun h => h0 ((fetch0_0 t).mp h)
  have h := (dats m 0 c).before_unfetched_in 0 rfl t hf (fun _ => rfl)
    ((dats m 0 c).after 0 ⟨t.val - 1, Nat.lt_of_le_of_lt (Nat.sub_le _ _) t.isLt⟩)
  rw [before0_0] at h
  unfold Dat.kept at h
  rw [Window.fill_cut] at h
  rw [h, after0_0]

/-- Outside the first point of a row block the body stores nothing into windows 5 and 6, and at the first point it does. -/
theorem idle0_5 (t : Fin cfg0.N) : cfg0.idle 5 (cfg0.grid.coords t) = !decide (t.val % 12 = 0) := by
  show (!decide (k0_cond1 (grid0.coords t) = 1#1)) = _
  rw [decide_eq_decide.mpr (hcond0_0 t)]
theorem idle0_6 (t : Fin cfg0.N) : cfg0.idle 6 (cfg0.grid.coords t) = !decide (t.val % 12 = 0) := idle0_5 t

/-- At the later points of a row block window 5's buffer holds the codes of the row block. -/
theorem before0_5_B (c : Dev nD) : ∀ (t : Fin cfg0.N) (h0 : ¬t.val % 12 = 0) (d),
    (dats m 0 c).before 5 t d = codesB (iblk m c 0 t) := by
  rintro ⟨n, hn⟩
  induction n with
  | zero => exact fun h0 => absurd (Nat.zero_mod _) h0
  | succ n ih =>
    intro h0 d
    have hk : iblk m c 0 ⟨n, Nat.lt_of_succ_lt hn⟩ = iblk m c 0 ⟨n + 1, hn⟩ := iblk0_kept m c ⟨n + 1, hn⟩ h0
    simp only at h0
    rw [Dat.before_of_pos _ 5 _ (Nat.succ_ne_zero n) ((cfg0.win 5).fetch_out rfl _), if_neg (fun h => by
      have := (flush0_5 _).mp h; simp only [Nat.add_sub_cancel] at this; omega)]
    show (dats m 0 c).left 5 ⟨n, Nat.lt_of_succ_lt hn⟩ d = _
    unfold Dat.left
    rw [idle0_5]
    by_cases h : n % 12 = 0
    · simp only [h, decide_true, Bool.not_true]
      unfold Dat.kept
      rw [Pipeline.fill_of_clip_none 5 _ (fun _ => rfl) d ((dats m 0 c).after 5 ⟨n, Nat.lt_of_succ_lt hn⟩), Window.fill_cut, after0_5, hk]
    · simp only [h, decide_false, Bool.not_false]
      rw [ih (Nat.lt_of_succ_lt hn) h d, hk]
/-- At the later points of a row block window 6's buffer holds the scales of the row block. -/
theorem before0_6_B (c : Dev nD) : ∀ (t : Fin cfg0.N) (h0 : ¬t.val % 12 = 0) (d),
    (dats m 0 c).before 6 t d = rowsB (iblk m c 0 t) := by
  rintro ⟨n, hn⟩
  induction n with
  | zero => exact fun h0 => absurd (Nat.zero_mod _) h0
  | succ n ih =>
    intro h0 d
    have hk : iblk m c 0 ⟨n, Nat.lt_of_succ_lt hn⟩ = iblk m c 0 ⟨n + 1, hn⟩ := iblk0_kept m c ⟨n + 1, hn⟩ h0
    simp only at h0
    rw [Dat.before_of_pos _ 6 _ (Nat.succ_ne_zero n) ((cfg0.win 6).fetch_out rfl _), if_neg (fun h => by
      have := (flush0_6 _).mp h; simp only [Nat.add_sub_cancel] at this; omega)]
    show (dats m 0 c).left 6 ⟨n, Nat.lt_of_succ_lt hn⟩ d = _
    unfold Dat.left
    rw [idle0_6]
    by_cases h : n % 12 = 0
    · simp only [h, decide_true, Bool.not_true]
      unfold Dat.kept
      rw [Pipeline.fill_of_clip_none 6 _ (fun _ => rfl) d ((dats m 0 c).after 6 ⟨n, Nat.lt_of_succ_lt hn⟩), Window.fill_cut, after0_6, hk]
    · simp only [h, decide_false, Bool.not_false]
      rw [ih (Nat.lt_of_succ_lt hn) h d, hk]

/-- The row block's codes in window 5's buffer are what the obligation asks for, stored at this point or kept. -/
theorem leaves0_5 (c : Dev nD) (t : Fin cfg0.N) :
    owns (c : Thread nD τ) (ms0_5 t) fullShare (codesB (iblk m c 0 t)) ⊢ ((dats m 0 c).leavesExact 5 t : sProp 𝕄) := by
  unfold Dat.leavesExact
  rw [idle0_5]
  by_cases h0 : t.val % 12 = 0
  · simp only [h0, decide_true, Bool.not_true]; rw [after0_5]
  · simp only [h0, decide_false, Bool.not_false]
    cases (cfg0.win 5).flush t
    · iintro H; iexists (codesB (iblk m c 0 t)); rw [before0_5_B m c t h0]; iexact H
    · dsimp only; rw [after0_5]
/-- The row block's scales in window 6's buffer are what the obligation asks for, stored at this point or kept. -/
theorem leaves0_6 (c : Dev nD) (t : Fin cfg0.N) :
    owns (c : Thread nD τ) (ms0_6 t) fullShare (rowsB (iblk m c 0 t)) ⊢ ((dats m 0 c).leavesExact 6 t : sProp 𝕄) := by
  unfold Dat.leavesExact
  rw [idle0_6]
  by_cases h0 : t.val % 12 = 0
  · simp only [h0, decide_true, Bool.not_true]; rw [after0_6]
  · simp only [h0, decide_false, Bool.not_false]
    cases (cfg0.win 6).flush t
    · iintro H; iexists (rowsB (iblk m c 0 t)); rw [before0_6_B m c t h0]; iexact H
    · dsimp only; rw [after0_6]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 216 := lt_of_lt_of_eq t.isLt (show cfg0.N = 216 from N_0)
  by_cases h0 : t.val % 12 = 0
  · by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6
  · by_cases hz : t.val = 0
    · exfalso; omega
    · rw [PhiS_castSucc m c t, PhiS_pos m c _ _ hz, iblk0_kept m c t h0]
      simp only [before0_5_B m c t h0, before0_6_B m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ (fun h => h0 ((hcond0_0 t).mp h)) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5 m c t); iexact H5
      iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: what the carried scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 216 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Quant.lean ====
/- The scalar part of the proof, over the extended reals: the exponent the kernel finds by counting powers of two
   and the exponent the reference finds by a floored logarithm are one integer, and both readings of
   "two to that integer" agree. -/
module

public import Idealize.ShloMosaic.Lib.Pointwise

@[expose] public section

set_option maxRecDepth 16384

noncomputable section

namespace Cert.Quant

open Idealize.ShloMosaic

/-! ## Constants -/

theorem ofBits_128 : Ideal.ofBits .f32 0x43000000#32 = ((128 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul]; norm_num
theorem ofBits_top : Ideal.ofBits .f32 0x7F800000#32 = (⊤ : EReal) := by
  simp [Ideal.ofBits, Ideal.ieee, -EReal.coe_mul]
theorem ofBits_bot : Ideal.ofBits .f32 0xFF800000#32 = (⊥ : EReal) := by
  simp [Ideal.ofBits, Ideal.ieee, -EReal.coe_mul]
/-- The smallest normal number. -/
theorem ofBits_tiny : Ideal.ofBits .f32 0x00800000#32 = (((2 : ℝ) ^ (-126 : ℤ) : ℝ) : EReal) := by
  simp [Ideal.ofBits, Ideal.ieee, -EReal.coe_mul]; norm_num
/-- The rounded `1 / 448` is some positive real. -/
theorem ofBits_inv448 : ∃ c : ℝ, 0 < c ∧ Ideal.ofBits .f32 0x3B124925#32 = ((c : ℝ) : EReal) := by
  refine ⟨_, ?_, by simp [Ideal.ofBits, Ideal.ieee, -EReal.coe_mul]; rfl⟩
  norm_num

/-! ## Powers of two by their exponent field -/

/-- The number whose exponent field is `t` and whose other fields are zero. -/
def field (t : ℕ) : EReal := Ideal.ofBits .f32 (IntOp.shli .vector (BitVec.ofNat 32 t) 23#32)

theorem field_bits : ∀ t : Fin 256,
    ((IntOp.shli .vector (BitVec.ofNat 32 t) 23#32).extractLsb' 31 1 == 1#1) = false
      ∧ ((IntOp.shli .vector (BitVec.ofNat 32 t) 23#32).extractLsb' 23 8).toNat = t
      ∧ ((IntOp.shli .vector (BitVec.ofNat 32 t) 23#32).extractLsb' 0 23).toNat = 0 := by
  decide +kernel

theorem field_eq (t : ℕ) (h : t < 256) :
    field t = if t = 255 then ⊤ else if t = 0 then 0 else (((2 : ℝ) ^ ((t : ℤ) - 127) : ℝ) : EReal) := by
  obtain ⟨h1, h2, h3⟩ := field_bits ⟨t, h⟩
  simp only [field, Ideal.ofBits, Ideal.ieee] at *
  rw [h1, h2, h3]
  by_cases ht : t = 255
  · simp [ht]
  by_cases h0 : t = 0
  · simp [h0]
  rw [if_neg (by norm_num; exact ht), if_neg h0, if_neg ht, if_neg h0]
  refine congrArg _ ?_
  have : ((t : ℤ) - 127) = 23 + ((t : ℤ) - (2 ^ (8 - 1) - 1) - (23 : ℕ)) := by norm_num
  rw [this, zpow_add₀ (by norm_num)]
  norm_num

/-! ## Counting -/

theorem count_below : ∀ n : Fin 257,
    Finset.univ.fold IntOp.addi (0#32) (fun t : Fin 256 => if t.val < n.val then 1#32 else 0#32) = BitVec.ofNat 32 n.val := by
  decide +kernel

/-- How many of the 256 powers of two `|v|` reaches, as the kernel sums it. -/
def kCount (v : EReal) : BitVec 32 :=
  Finset.univ.fold IntOp.addi (0#32) (fun t : Fin 256 =>
    if Ideal.ofBits .f32 (IntOp.shli .vector (BitVec.ofNat 32 t.val) 23#32) ≤ max v (-v) then 1#32 else 0#32)

/-- The exponent the kernel takes from that count `n`; zero for a zero maximum `a`. -/
def kExp (a : EReal) (n : BitVec 32) : BitVec 32 :=
  if a = 0 then 0#32
  else Scalar.select (IntOp.ori (IntOp.cmpi .sle (IntOp.subi n 1#32) 0#32) (IntOp.cmpi .eq (IntOp.subi n 1#32) 255#32))
    (0#32) (IntOp.subi (IntOp.subi n 1#32) 126#32)

/-- The exponent the reference takes from the maximum `a` and the quotient `v`, the base of the logarithm being `b`. -/
def rExp (b a v : EReal) : EReal :=
  if a = 0 then 0
  else Scalar.select (IntOp.ori (BitVec.ofBool (decide (v < Ideal.ofBits .f32 0x00800000#32)))
      (BitVec.ofBool (decide (v = Ideal.ofBits .f32 0x7F800000#32)))) 0
    (min (Ideal.liftRound Int.floor (Ideal.div (Ideal.log v) b) + 1) (Ideal.ofBits .f32 0x43000000#32))

theorem kCount_eq (v : EReal) (h0 : 0 ≤ v) (n : ℕ) (hn : n < 257) (h : ∀ t : ℕ, t < 256 → (field t ≤ v ↔ t < n)) :
    kCount v = BitVec.ofNat 32 n := by
  rw [← count_below ⟨n, hn⟩, kCount]
  refine congrArg (fun f => Finset.univ.fold IntOp.addi (0#32) f) (funext fun t => ?_)
  rw [max_eq_left (le_trans (by simpa using h0) h0)]
  exact if_congr (h t.val t.isLt) rfl rfl

theorem kExp_count : ∀ n : Fin 257,
    (Scalar.select (IntOp.ori (IntOp.cmpi .sle (IntOp.subi (BitVec.ofNat 32 n) 1#32) 0#32)
        (IntOp.cmpi .eq (IntOp.subi (BitVec.ofNat 32 n) 1#32) 255#32))
      (0#32) (IntOp.subi (IntOp.subi (BitVec.ofNat 32 n) 1#32) 126#32) : BitVec 32)
    = if n.val ≤ 1 ∨ n.val = 256 then BitVec.ofInt 32 0 else BitVec.ofInt 32 ((n.val : ℤ) - 127) := by
  decide +kernel

theorem kExp_zero (n : BitVec 32) : kExp 0 n = BitVec.ofInt 32 0 := by
  rw [kExp, if_pos rfl]; rfl

theorem kExp_of (a : EReal) (ha : a ≠ 0) (n : ℕ) (hn : n < 257) :
    kExp a (BitVec.ofNat 32 n) = if n ≤ 1 ∨ n = 256 then BitVec.ofInt 32 0 else BitVec.ofInt 32 ((n : ℤ) - 127) := by
  rw [kExp, if_neg ha]
  exact kExp_count ⟨n, hn⟩

/-- A real logarithm to base two, floored: the exponent of the largest power of two below `y`. -/
theorem floor_log (y : ℝ) (hy : 0 < y) : ∃ L : ℤ,
    Ideal.liftRound Int.floor (Ideal.div (Ideal.log ((y : ℝ) : EReal)) ((Real.log 2 : ℝ) : EReal)) = ((L : ℝ) : EReal)
      ∧ (2 : ℝ) ^ L ≤ y ∧ y < (2 : ℝ) ^ (L + 1) := by
  have h2 : 0 < Real.log 2 := Real.log_pos (by norm_num)
  refine ⟨⌊Real.log y / Real.log 2⌋, ?_, ?_, ?_⟩
  · rw [Ideal.log_coe, if_neg (not_le.mpr hy), Ideal.div, if_neg (by exact_mod_cast h2.ne'), ← EReal.coe_inv, ← EReal.coe_mul,
      div_eq_mul_inv]
    rfl
  · rw [← Real.log_le_log_iff (by positivity) hy, Real.log_zpow, ← le_div_iff₀ h2]
    exact Int.floor_le _
  · rw [← Real.log_lt_log_iff hy (by positivity), Real.log_zpow, ← div_lt_iff₀ h2]
    push_cast
    exact Int.lt_floor_add_one _

/-- The two exponents are one integer between `-125` and `128`. -/
theorem exponents_agree (a c : EReal) (ha : 0 ≤ a) (hc : ∃ c' : ℝ, 0 < c' ∧ c = ((c' : ℝ) : EReal)) :
    ∃ k : ℤ, -125 ≤ k ∧ k ≤ 128 ∧ kExp a (kCount (a * c)) = BitVec.ofInt 32 k
      ∧ rExp ((Real.log 2 : ℝ) : EReal) a (a * c) = ((k : ℝ) : EReal) := by
  obtain ⟨c', hc0, rfl⟩ := hc
  by_cases h0 : a = 0
  · exact ⟨0, by norm_num, by norm_num, by rw [h0, kExp_zero], by simp [rExp, h0]⟩
  induction a using EReal.rec with
  | bot => simp at ha
  | top =>
    rw [EReal.top_mul_coe_of_pos hc0]
    refine ⟨0, by norm_num, by norm_num, ?_, ?_⟩
    · rw [kCount_eq ⊤ le_top 256 (by norm_num) (fun t ht => by simp [ht]), kExp_of _ h0 256 (by norm_num)]
      simp
    · rw [rExp, if_neg h0, ofBits_top]
      simp [Scalar.select, IntOp.ori]
  | coe r =>
    have hr : 0 < r := lt_of_le_of_ne (by exact_mod_cast ha) (fun h => h0 (by rw [← h]; rfl))
    rw [← EReal.coe_mul]
    have hy : 0 < r * c' := mul_pos hr hc0
    generalize r * c' = y at hy
    have hfield : ∀ t : ℕ, 0 < t → t < 255 → (field t ≤ (y : EReal) ↔ (2 : ℝ) ^ ((t : ℤ) - 127) ≤ y) := fun t h1 h2 => by
      rw [field_eq t (by omega), if_neg (by omega), if_neg (by omega), EReal.coe_le_coe_iff]
    have hfield0 : field 0 ≤ (y : EReal) := by
      rw [field_eq 0 (by omega)]; simpa using hy.le
    have hfieldt : ¬ field 255 ≤ (y : EReal) := by
      rw [field_eq 255 (by omega)]; simp
    by_cases hs : y < (2 : ℝ) ^ (-126 : ℤ)
    · refine ⟨0, by norm_num, by norm_num, ?_, ?_⟩
      · rw [kCount_eq _ (by exact_mod_cast hy.le) 1 (by norm_num), kExp_of _ h0 1 (by norm_num)]
        · simp
        · intro t ht
          by_cases t0 : t = 0
          · subst t0; simpa using hfield0
          by_cases t1 : t = 255
          · subst t1; simpa using hfieldt
          rw [hfield t (by omega) (by omega)]
          have : (2 : ℝ) ^ (-126 : ℤ) ≤ 2 ^ ((t : ℤ) - 127) := zpow_le_zpow_right₀ (by norm_num) (by omega)
          exact ⟨fun h => absurd (lt_of_lt_of_le hs (this.trans h)) (lt_irrefl _), fun h => by omega⟩
      · rw [rExp, if_neg h0, ofBits_tiny]
        have : ((y : ℝ) : EReal) < (((2 : ℝ) ^ (-126 : ℤ) : ℝ) : EReal) := by exact_mod_cast hs
        rw [decide_eq_true this]
        generalize decide ((y : EReal) = Ideal.ofBits .f32 0x7F800000#32) = d
        cases d <;> simp [Scalar.select, IntOp.ori]
    · have hs' := not_lt.mp hs
      obtain ⟨L, hfl, hl, hu⟩ := floor_log y hy
      have hL : -126 ≤ L := by
        by_contra h
        have : (2 : ℝ) ^ (L + 1) ≤ 2 ^ (-126 : ℤ) := zpow_le_zpow_right₀ (by norm_num) (by omega)
        linarith
      refine ⟨min (L + 1) 128, by omega, by omega, ?_, ?_⟩
      · have hn : ∃ n : ℕ, (n : ℤ) = min (L + 1) 128 + 127 := ⟨(min (L + 1) 128 + 127).toNat, by omega⟩
        obtain ⟨n, hn⟩ := hn
        rw [kCount_eq _ (by exact_mod_cast hy.le) n (by omega), kExp_of _ h0 n (by omega), if_neg (by omega)]
        · congr 1; omega
        · intro t ht
          by_cases t0 : t = 0
          · subst t0; exact ⟨fun _ => by omega, fun _ => hfield0⟩
          by_cases t1 : t = 255
          · subst t1; exact ⟨fun h => absurd h hfieldt, fun h => by omega⟩
          rw [hfield t (by omega) (by omega)]
          constructor
          · intro h
            have := lt_of_le_of_lt h hu
            have := (zpow_lt_zpow_iff_right₀ (by norm_num : (1 : ℝ) < 2)).mp this
            omega
          · intro h
            exact le_trans (zpow_le_zpow_right₀ (by norm_num) (by omega)) hl
      · rw [rExp, if_neg h0, ofBits_tiny, ofBits_top, hfl, ofBits_128]
        have h1 : ¬ ((y : ℝ) : EReal) < (((2 : ℝ) ^ (-126 : ℤ) : ℝ) : EReal) := by exact_mod_cast hs
        have h2 : ¬ ((y : ℝ) : EReal) = ⊤ := EReal.coe_ne_top y
        rw [decide_eq_false h1, decide_eq_false h2]
        simp only [Scalar.select, IntOp.ori]
        have h3 : (1 : EReal) = ((1 : ℝ) : EReal) := rfl
        rw [h3, ← EReal.coe_add, ← EReal.coe_strictMono.monotone.map_min]
        simp

/-! ## Two to an exponent -/

/-- The reference's power of two, with its two guards. -/
def rPow (e : EReal) : EReal :=
  if Ideal.ofBits .f32 0x42FE0000#32 < e then Ideal.ofBits .f32 0x7F800000#32
  else if e < Ideal.ofBits .f32 0xC2FC0000#32 then 0 else Ideal.exp2 e

/-- The kernel's power of two: the exponent field written between the guards `0` and `255`. -/
def kPow (e : BitVec 32) : EReal :=
  Ideal.ofBits .f32 (IntOp.shli .vector (IntOp.minsi (255#32) (IntOp.maxsi (0#32) (IntOp.addi e 127#32))) 23#32)

theorem clamp_eq : ∀ i : Fin 257,
    IntOp.minsi (255#32) (IntOp.maxsi (0#32) (IntOp.addi (BitVec.ofInt 32 ((i.val : ℤ) - 128)) 127#32))
      = BitVec.ofNat 32 (min 255 (i.val - 1)) := by
  decide +kernel

theorem pow_agree (k : ℤ) (h1 : -128 ≤ k) (h2 : k ≤ 128) : kPow (BitVec.ofInt 32 k) = rPow ((k : ℝ) : EReal) := by
  obtain ⟨i, hi⟩ : ∃ i : ℕ, (i : ℤ) = k + 128 := ⟨(k + 128).toNat, by omega⟩
  obtain rfl : k = (i : ℤ) - 128 := by omega
  rw [kPow, clamp_eq ⟨i, by omega⟩]
  change field (min 255 (i - 1)) = _
  rw [field_eq _ (by omega), rPow, ofBits_127, ofBits_neg126, ofBits_top]
  simp only [EReal.coe_lt_coe_iff]
  by_cases ha : 256 ≤ i
  · have : i = 256 := by omega
    subst this
    norm_num
  by_cases hb : i ≤ 1
  · have hi1 : (i : ℝ) ≤ 1 := by exact_mod_cast hb
    rw [if_neg (by omega), if_pos (by omega), if_neg (by push_cast; linarith), if_pos (by push_cast; linarith)]
  have ha' : (i : ℝ) ≤ 255 := by exact_mod_cast (by omega : i ≤ 255)
  have hb' : (2 : ℝ) ≤ i := by exact_mod_cast (by omega : 2 ≤ i)
  rw [if_neg (by omega), if_neg (by omega), if_neg (by push_cast; linarith), if_neg (by push_cast; linarith), Ideal.exp2_coe]
  refine congrArg _ ?_
  rw [show Real.rpow 2 (((i : ℤ) - 128 : ℤ) : ℝ) = (2 : ℝ) ^ (((i : ℤ) - 128 : ℤ) : ℝ) from rfl, Real.rpow_intCast]
  congr 1; omega

theorem neg_ofInt : ∀ i : Fin 254, IntOp.subi (0#32) (BitVec.ofInt 32 ((i.val : ℤ) - 125)) = BitVec.ofInt 32 (-((i.val : ℤ) - 125)) := by
  decide +kernel

/-- The scale: the kernel's and the reference's power of two of their exponents agree. -/
theorem scale_agree (a c : EReal) (ha : 0 ≤ a) (hc : ∃ c' : ℝ, 0 < c' ∧ c = ((c' : ℝ) : EReal)) :
    kPow (kExp a (kCount (a * c))) = rPow (rExp ((Real.log 2 : ℝ) : EReal) a (a * c)) := by
  obtain ⟨k, h1, h2, hk, hr⟩ := exponents_agree a c ha hc
  rw [hk, hr, pow_agree k (by omega) h2]

/-- The inverse scale: the same at the negated exponents. -/
theorem inverse_agree (a c : EReal) (ha : 0 ≤ a) (hc : ∃ c' : ℝ, 0 < c' ∧ c = ((c' : ℝ) : EReal)) :
    kPow (IntOp.subi (0#32) (kExp a (kCount (a * c)))) = rPow (0 - rExp ((Real.log 2 : ℝ) : EReal) a (a * c)) := by
  obtain ⟨k, h1, h2, hk, hr⟩ := exponents_agree a c ha hc
  obtain ⟨i, hi⟩ : ∃ i : ℕ, (i : ℤ) = k + 125 := ⟨(k + 125).toNat, by omega⟩
  obtain rfl : k = (i : ℤ) - 125 := by omega
  rw [hk, hr, neg_ofInt ⟨i, by omega⟩, pow_agree _ (by omega) (by omega), zero_sub, ← EReal.coe_neg, Int.cast_neg]

/-- A maximum of absolute values over a nonempty row is not negative. -/
theorem amax_nonneg {n : ℕ} (f : Fin (n + 1) → EReal) (b : EReal) :
    0 ≤ Finset.univ.fold max b (fun k => max (f k) (-(f k))) := by
  rw [Finset.le_fold_max]
  refine Or.inr ⟨0, Finset.mem_univ _, ?_⟩
  rcases le_total 0 (f 0) with h | h
  · exact le_max_of_le_left h
  · exact le_max_of_le_right (by simpa using h)

/-- A sum along a row that keeps only the entry at position `b`. -/
theorem sum_diag (f : Fin 128 → EReal) (b : Fin 128) :
    ∑ x : Fin 128, Scalar.select (IntOp.cmpi .eq (BitVec.ofNat 32 x.val) (BitVec.ofNat 32 b.val)) (f x) 0 = f b := by
  rw [Finset.sum_eq_single b]
  · simp [Scalar.select, IntOp.cmpi]
  · intro x _ hx
    have : ∀ x b : Fin 128, x ≠ b → IntOp.cmpi .eq (BitVec.ofNat 32 x.val) (BitVec.ofNat 32 b.val) = 0#1 := by decide +kernel
    rw [this x b hx]
    simp [Scalar.select]
  · intro h; exact absurd (Finset.mem_univ _) h

end Cert.Quant

end
-- ==== Proof.Spec.lean ====
/- What both programs compute, entry by entry over the extended reals: a row's scale, its quantised entries and its
   products with the columns, as the reference spells them. The kernel's spelling of a row's scale and of its
   quantised entries is equal to it (`kScale_eq`, `kCode_eq`). -/
module

public import proofs.«01_k».proof.Proof.Quant

@[expose] public section

set_option maxRecDepth 16384

noncomputable section

namespace Cert.Spec

open Idealize.ShloMosaic Cert.Quant

/-- The largest absolute value of a row. -/
def amax (f : Fin 4096 → EReal) : EReal :=
  Finset.univ.fold max (Ideal.ofBits .f32 0xFF800000#32) (fun k => max (f k) (-(f k)))

/-- The rounded constant `1 / 448`. -/
def inv448 : EReal := Ideal.ofBits .f32 0x3B124925#32

/-- The exponent of a row's scale. -/
def rowExp (f : Fin 4096 → EReal) : EReal := rExp ((Real.log 2 : ℝ) : EReal) (amax f) (amax f * inv448)

/-- A row's scale. -/
def rowScale (f : Fin 4096 → EReal) : EReal := rPow (rowExp f)

/-- A row's quantised entry `k`: scaled by the inverse of the row's scale, clipped to `[-448, 448]`. -/
def rowCode (f : Fin 4096 → EReal) (k : Fin 4096) : EReal :=
  min (Ideal.ofBits .f32 0x43E00000#32) (max (Ideal.ofBits .f32 0xC3E00000#32) (f k * rPow (0 - rowExp f)))

/-- A quantised row times a column, scaled back, with the column's scale and bias. -/
def rowOut (f g : Fin 4096 → EReal) (s b : EReal) : EReal :=
  (∑ k, rowCode f k * g k) * rowScale f * s + b

theorem rowOut_congr {f f' g g' : Fin 4096 → EReal} {s s' b b' : EReal} (hf : ∀ k, f k = f' k) (hg : ∀ k, g k = g' k) (hs : s = s')
    (hb : b = b') : rowOut f g s b = rowOut f' g' s' b' := by
  rw [funext hf, funext hg, hs, hb]

/-! ## The kernel's spelling -/

/-- The exponent the kernel finds for a row. -/
def kRowExp (f : Fin 4096 → EReal) : BitVec 32 := kExp (amax f) (kCount (amax f * inv448))

theorem kScale_eq (f : Fin 4096 → EReal) : kPow (kRowExp f) = rowScale f :=
  scale_agree (amax f) inv448 (amax_nonneg (n := 4095) f _) ofBits_inv448

theorem kCode_eq (f : Fin 4096 → EReal) (k : Fin 4096) :
    min (Ideal.ofBits .f32 0x43E00000#32) (max (Ideal.ofBits .f32 0xC3E00000#32)
      (f k * kPow (IntOp.subi (0#32) (kRowExp f)))) = rowCode f k := by
  have h : kPow (IntOp.subi (0#32) (kRowExp f)) = rPow (0 - rowExp f) :=
    inverse_agree (amax f) inv448 (amax_nonneg (n := 4095) f _) ofBits_inv448
  rw [h, rowCode]

/-! ## The three results over whole arrays -/

/-- The quantised array. -/
def codes (X : (⟨2, ![18432, 4096]⟩ : Shape).Idx → EReal) : (⟨2, ![18432, 4096]⟩ : Shape).Idx → EReal :=
  fun i => rowCode (fun k => X (ix2 (i 0 : Fin 18432) k)) (i 1)

/-- The scales, 128 rows to a line. -/
def scales (X : (⟨2, ![18432, 4096]⟩ : Shape).Idx → EReal) : (⟨2, ![144, 128]⟩ : Shape).Idx → EReal :=
  fun i => rowScale (fun k => X (ix2 (⟨(i 0).val * 128 + (i 1).val, by
    have h0 : (i 0).val < 144 := (i 0).isLt; have h1 : (i 1).val < 128 := (i 1).isLt; omega⟩ : Fin 18432) k))

/-- The linear layer's result, 8 rows to a line. -/
def out (X : (⟨2, ![18432, 4096]⟩ : Shape).Idx → EReal) (W : (⟨2, ![12288, 4096]⟩ : Shape).Idx → EReal)
    (S B : (⟨2, ![1, 12288]⟩ : Shape).Idx → EReal) : (⟨3, ![2304, 8, 12288]⟩ : Shape).Idx → EReal :=
  fun i => rowOut (fun k => X (ix2 (⟨(i 0).val * 8 + (i 1).val, by
      have h0 : (i 0).val < 2304 := (i 0).isLt; have h1 : (i 1).val < 8 := (i 1).isLt; omega⟩ : Fin 18432) k))
    (fun k => W (ix2 (i 2 : Fin 12288) k)) (S (ix2 0 (i 2 : Fin 12288))) (B (ix2 0 (i 2 : Fin 12288)))

end Cert.Spec

end
-- ==== Proof.KernelReads.lean ====
/- The kernel's stored values read at an index, over the extended reals: each is the shared specification's entry. -/
module

public import proofs.«01_k».proof.Proof.KernelRun
public import proofs.«01_k».proof.Proof.Spec
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen Cert.Quant Cert.Spec

/-- The column of the rows' largest absolute values. -/
def amaxVec (x : FVec Ideal S1024x4096 .bf16) : FVec Ideal S1024x1 .f32 :=
  shapeCast S1024x1 (multiReduction .maximumf [1] S1024 (absf (k0_pay6 x)) 0xFF800000#32 reduces_S1024x4096_S1024 (.inl rfl) rfl)
    shapeCasts_S1024_S1024x1

/-- The column of counts. -/
def countVec (v : FVec Ideal S1024x1 .f32) : IVec S1024x1 32 :=
  shapeCast S1024x1
    (multiReductionI .add [1] S1024
      (select (cmpf (F := Ideal) .oge (broadcastTo S1024x256 (absf v) broadcasts_S1024x1_S1024x256)
          (bitcastToFloat .f32 (shli (iota .tc S1024x256 32 [1] iota_S1024x256_d1_w32) (broadcast S1024x256 23#32))))
        (broadcast S1024x256 1#32) (broadcast S1024x256 0#32))
      0#32 reduces_S1024x256_S1024 rfl)
    shapeCasts_S1024_S1024x1

/-- The column of exponents from the maxima `a` and the counts `n`. -/
def expVec (a : FVec Ideal S1024x1 .f32) (n : IVec S1024x1 32) : IVec S1024x1 32 :=
  select (cmpf (F := Ideal) .oeq a (broadcast S1024x1 (Scalar.ofBits .f32 0x00000000#32))) (broadcast S1024x1 0#32)
    (select
      (ori (cmpi .sle (subi n (broadcast S1024x1 1#32)) (broadcast S1024x1 0#32))
        (cmpi .eq (subi n (broadcast S1024x1 1#32)) (broadcast S1024x1 255#32)))
      (broadcast S1024x1 0#32) (subi (subi n (broadcast S1024x1 1#32)) (broadcast S1024x1 126#32)))

theorem pay7_eq (x : FVec Ideal S1024x4096 .bf16) :
    k0_pay7 (F := Ideal) x
      = expVec (amaxVec x) (countVec (mulf (amaxVec x) (broadcast S1024x1 (Scalar.ofBits .f32 0x3B124925#32)))) := rfl

theorem amax_at (x : FVec Ideal S1024x4096 .bf16) (r : Fin 1024) :
    amaxVec x (ix2 r 0) = amax (fun k => x (ix2 r k)) := by
  pointwise [amaxVec, k0_pay6]
  rfl

theorem count_at (v : FVec Ideal S1024x1 .f32) (r : Fin 1024) : countVec v (ix2 r 0) = kCount (v (ix2 r 0)) := by
  pointwise [countVec]
  rfl

theorem exp_at (a : FVec Ideal S1024x1 .f32) (n : IVec S1024x1 32) (r : Fin 1024) :
    expVec a n (ix2 r 0) = kExp (a (ix2 r 0)) (n (ix2 r 0)) := by
  pointwise [expVec]
  rfl

theorem scaled_at (a : FVec Ideal S1024x1 .f32) (r : Fin 1024) :
    mulf a (broadcast S1024x1 (Scalar.ofBits .f32 0x3B124925#32)) (ix2 r 0) = a (ix2 r 0) * inv448 := rfl

/-- The exponent the kernel finds for a row of its block. -/
theorem pay7_at (x : FVec Ideal S1024x4096 .bf16) (r : Fin 1024) :
    k0_pay7 (F := Ideal) x (ix2 r 0) = kRowExp (fun k => x (ix2 r k)) := by
  rw [pay7_eq, exp_at, count_at, scaled_at, amax_at]
  rfl

/-- The exponent column with the bias added and the field's guards. -/
def biasVec (e : IVec S1024x1 32) : IVec S1024x1 32 :=
  minsi (broadcast S1024x1 255#32) (maxsi (broadcast S1024x1 0#32) (addi e (broadcast S1024x1 127#32)))

theorem pay8_eq (x : FVec Ideal S1024x4096 .bf16) : k0_pay8 (F := Ideal) x = biasVec (k0_pay7 (F := Ideal) x) := rfl

theorem col_at (e : IVec S1024x1 32) (r : Fin 1024) :
    k0_pay3 (F := Ideal) (biasVec e) 23#32 (ix2 r 0) = kPow (e (ix2 r 0)) := by
  pointwise [k0_pay3, k0_pay1, biasVec]
  rfl

/-- The scratch column holds the rows' scales. -/
theorem colB_at (x : FVec Ideal S1024x4096 .bf16) (r : Fin 1024) :
    colB (F := Ideal) x (ix2 r 0) = rowScale (fun k => x (ix2 r k)) := by
  rw [colB, pay8_eq, col_at, pay7_at, kScale_eq]

theorem codes_at (v : FVec Ideal S1024x4096 .f32) (e : IVec S1024x1 32) (r : Fin 1024) (k : Fin 4096) :
    k0_pay2 (F := Ideal) v e (ix2 r k)
      = min (Ideal.ofBits .f32 0x43E00000#32) (max (Ideal.ofBits .f32 0xC3E00000#32)
          (v (ix2 r k) * kPow (IntOp.subi (0#32) (e (ix2 r 0))))) := by
  pointwise [k0_pay2]
  rfl

theorem pay6_eq (x : FVec Ideal S1024x4096 .bf16) (i : S1024x4096.Idx) : k0_pay6 (F := Ideal) x i = x i := by
  pointwise [k0_pay6]

/-- The quantised block. -/
theorem codesB_at (x : FVec Ideal S1024x4096 .bf16) (r : Fin 1024) (k : Fin 4096) :
    codesB (F := Ideal) x (ix2 r k) = rowCode (fun k => x (ix2 r k)) k := by
  rw [codesB, codes_at, pay7_at, pay6_eq, kCode_eq (fun k => x (ix2 r k)) k]

theorem rows_at (e : IVec S1024x1 32) (a : Fin 8) (b : Fin 128) :
    k0_pay4 (F := Ideal) (biasVec e) 23#32 (ix2 a b)
      = kPow (e (ix2 (⟨a.val * 128 + b.val, by omega⟩ : Fin 1024) 0)) := by
  pointwise [k0_pay4, k0_pay1, biasVec]
  exact sum_diag (fun x => kPow (e (ix2 (⟨a.val * 128 + x.val, by omega⟩ : Fin 1024) 0))) b

/-- The scales laid out 128 to a line: a sum of the scales masked to the diagonal. -/
theorem rowsB_at (x : FVec Ideal S1024x4096 .bf16) (a : Fin 8) (b : Fin 128) :
    rowsB (F := Ideal) x (ix2 a b) = rowScale (fun k => x (ix2 (⟨a.val * 128 + b.val, by omega⟩ : Fin 1024) k)) := by
  rw [rowsB, pay8_eq, rows_at, pay7_at, kScale_eq]

theorem pay5_at (q : FVec Ideal S1024x4096 .fp8e4m3) (w : FVec Ideal S1024x4096 .fp8e4m3) (s : FVec Ideal S1024x1 .f32)
    (a b : FVec Ideal S1x1024 .f32) (p : Fin 128) (r : Fin 8) (n : Fin 1024) :
    k0_pay5 (F := Ideal) q w s a b (ix3 p r n)
      = (∑ k : Fin 4096, q (ix2 (⟨p.val * 8 + r.val, by omega⟩ : Fin 1024) k) * w (ix2 n k))
          * s (ix2 (⟨p.val * 8 + r.val, by omega⟩ : Fin 1024) 0) * a (ix2 0 n) + b (ix2 0 n) := by
  pointwise [k0_pay5]

/-- The result block. -/
theorem outB_at (x : FVec Ideal S1024x4096 .bf16) (w : FVec Ideal S1024x4096 .fp8e4m3) (a b : FVec Ideal S1x1024 .f32)
    (p : Fin 128) (r : Fin 8) (n : Fin 1024) :
    k0_pay5 (F := Ideal) (codesB (F := Ideal) x) w (colB (F := Ideal) x) a b (ix3 p r n)
      = rowOut (fun k => x (ix2 (⟨p.val * 8 + r.val, by omega⟩ : Fin 1024) k)) (fun k => w (ix2 n k)) (a (ix2 0 n)) (b (ix2 0 n)) := by
  rw [pay5_at, colB_at, rowOut]
  simp only [codesB_at]

end Cert.KernelIdeal.Body

end
-- ==== Proof.KernelValue.lean ====
/- The kernel's three result arrays after its run, over the extended reals, as the specification of its arguments. -/
module

public import proofs.«01_k».proof.Proof.KernelFrame
public import proofs.«01_k».proof.Proof.KernelReads
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen Cert.Quant Cert.Spec

variable (m : (ℓ : Loc nD τ sig) → Buf (Elt Ideal) ℓ)

/-- Where each window's block sits at a grid point. -/
theorem idx : ∀ t : Fin cfg0.N, win0_0.index t = ![t.val / 12, 0] ∧ win0_1.index t = ![t.val % 12, 0] ∧ win0_2.index t = ![0, t.val % 12]
    ∧ win0_3.index t = ![0, t.val % 12] ∧ win0_4.index t = ![t.val / 12, 0, t.val % 12] ∧ win0_5.index t = ![t.val / 12, 0]
    ∧ win0_6.index t = ![t.val / 12, 0] ∧ t.val / 12 < 18 := (by decide +kernel : ∀ t : Fin grid0.N, _)

theorem point5 (c : Dev nD) (t : Fin cfg0.N) (y : S1024x4096.Idx) :
    codesB (F := Ideal) (iblk m c 0 t) y = codes (V m c main_v0) (((cfg0.win 5).blk t).view.emb y) := by
  rw [eq_ix2 y]
  refine (codesB_at (iblk m c 0 t) (y 0) (y 1)).trans ?_
  unfold codes
  refine congrArg₂ rowCode (funext fun k => ?_) ?_
  · blk_ext [iblk, idx t]
  · refine Fin.ext ?_
    blk_simp [idx t]

theorem point6 (c : Dev nD) (t : Fin cfg0.N) (y : S8x128.Idx) :
    rowsB (F := Ideal) (iblk m c 0 t) y = scales (V m c main_v0) (((cfg0.win 6).blk t).view.emb y) := by
  rw [eq_ix2 y]
  refine (rowsB_at (iblk m c 0 t) (y 0) (y 1)).trans ?_
  unfold scales
  refine congrArg rowScale (funext fun k => ?_)
  blk_ext [iblk, idx t]

theorem point4 (c : Dev nD) (t : Fin cfg0.N) (y : S128x8x1024.Idx) :
    k0_pay5 (F := Ideal) (codesB (F := Ideal) (iblk m c 0 t)) (iblk m c 1 t) (colB (F := Ideal) (iblk m c 0 t)) (iblk m c 2 t) (iblk m c 3 t) y
      = out (V m c main_v0) (V m c main_arg1) (V m c main_v1) (V m c main_v2) (((cfg0.win 4).blk t).view.emb y) := by
  rw [eq_ix3 y]
  refine (outB_at (iblk m c 0 t) (iblk m c 1 t) (iblk m c 2 t) (iblk m c 3 t) (y 0) (y 1) (y 2)).trans ?_
  unfold out
  refine rowOut_congr (fun k => ?_) (fun k => ?_) ?_ ?_
  · blk_ext [iblk, idx t]
  · blk_ext [iblk, idx t]
  · blk_ext [iblk, idx t]
  · blk_ext [iblk, idx t]

/-- The result array. -/
theorem final4 (c : Dev nD) :
    (dats m 0 c).arrAt 4 (cfgs 0).N = out (V m c main_v0) (V m c main_arg1) (V m c main_v1) (V m c main_v2) := by
  refine (dats m 0 c).arrAt_eq_of_covers 4 _ (by decide +kernel) fun t hf y => ?_
  blk_simp; rw [after0_4]
  exact point4 m c t y

/-- The quantised array. -/
theorem final5 (c : Dev nD) : (dats m 0 c).arrAt 5 (cfgs 0).N = codes (V m c main_v0) := by
  refine (dats m 0 c).arrAt_eq_of_covers 5 _ (by decide +kernel) fun t hf y => ?_
  blk_simp; rw [after0_5]
  exact point5 m c t y

/-- The scales. -/
theorem final6 (c : Dev nD) : (dats m 0 c).arrAt 6 (cfgs 0).N = scales (V m c main_v0) := by
  refine (dats m 0 c).arrAt_eq_of_covers 6 _ (by decide +kernel) fun t hf y => ?_
  blk_simp; rw [after0_6]
  exact point6 m c t y

/-! ## The operands as the host reshaped them -/

theorem V_v0 (c : Dev nD) : V m c main_v0
    = shapeCast S18432x4096 (m ((c.tc : Thread nD τ).loc main_arg0)) shapeCasts_S6x3072x4096_S18432x4096 := by
  entry_read
  rfl

theorem V_v1 (c : Dev nD) : V m c main_v1
    = shapeCast S1x12288 (m ((c.tc : Thread nD τ).loc main_arg2)) shapeCasts_S12288_S1x12288 := by
  entry_read
  rfl

theorem V_v2 (c : Dev nD) : V m c main_v2
    = shapeCast S1x12288 (m ((c.tc : Thread nD τ).loc main_arg3)) shapeCasts_S12288_S1x12288 := by
  entry_read
  rfl

end Cert.KernelIdeal.Body

end
-- ==== Proof.ReferenceReads.lean ====
/- The reference's stored values read at an index, over the extended reals: each is the shared specification's entry. -/
module

public import proofs.«01_k».proof.Proof.Gen.ReferenceIdeal.Skeleton
public import proofs.«01_k».proof.Proof.Spec
public import Idealize.ShloMosaic.Lib.Pointwise
public import Idealize.ShloMosaic.PureOps.IdealRules

@[expose] public section

set_option maxRecDepth 16384

noncomputable section

namespace Cert.ReferenceIdeal.Body

open Idealize.ShloMosaic Idealize.ShloMosaic.TcCoe Idealize.SL.Sem
open Cert.ReferenceIdeal Cert.ReferenceIdeal.Gen Cert.Quant Cert.Spec

/-- The named constant is the real logarithm of two. -/
theorem ln_2 : Named.named (F := Ideal) Cert.ReferenceIdeal.κ "ln_2" (φ := .f32) 0x3F317218#32 = ((Real.log 2 : ℝ) : EReal) :=
  IdealRules.named_const.ideal_named_scalar _ _ _ _ rfl

/-- The column of the rows' largest absolute values. -/
def amaxVec (x : FVec Ideal S18432x4096 .bf16) : FVec Ideal S18432x1 .f32 :=
  shapeCast S18432x1 (multiReduction .maximumf [1] S18432 (absf (k0_pay4 x)) 0xFF800000#32 reduces_S18432x4096_S18432 (.inl rfl) rfl)
    shapeCasts_S18432_S18432x1

/-- The column of exponents, from the maxima `a` and the quotients `v`. -/
def expVec (a v : FVec Ideal S18432x1 .f32) : FVec Ideal S18432x1 .f32 :=
  select (cmpf .oeq a (broadcast S18432x1 (Scalar.ofBits .f32 0x00000000#32))) (broadcast S18432x1 (Scalar.ofBits .f32 0x00000000#32))
    (select
      (ori (cmpf .olt v (broadcast S18432x1 (Scalar.ofBits .f32 0x00800000#32)))
        (cmpf .oeq v (broadcast S18432x1 (Scalar.ofBits .f32 0x7F800000#32))))
      (broadcast S18432x1 (Scalar.ofBits .f32 0x00000000#32))
      (minimumf
        (addf (floor (divf (log v) (broadcast S18432x1 (Named.named κ "ln_2" 0x3F317218#32 : Ideal .f32))))
          (broadcast S18432x1 (Scalar.ofBits .f32 0x3F800000#32)))
        (broadcast S18432x1 (Scalar.ofBits .f32 0x43000000#32))))

/-- The column of powers of two. -/
def powVec (e : FVec Ideal S18432x1 .f32) : FVec Ideal S18432x1 .f32 :=
  select (cmpf .ogt e (broadcast S18432x1 (Scalar.ofBits .f32 0x42FE0000#32))) (broadcast S18432x1 (Scalar.ofBits .f32 0x7F800000#32))
    (select (cmpf .olt e (broadcast S18432x1 (Scalar.ofBits .f32 0xC2FC0000#32))) (broadcast S18432x1 (Scalar.ofBits .f32 0x00000000#32))
      (exp2 e))

theorem pay5_eq (x : FVec Ideal S18432x4096 .bf16) :
    k0_pay5 (F := Ideal) x
      = expVec (amaxVec x) (mulf (amaxVec x) (broadcast S18432x1 (Scalar.ofBits .f32 0x3B124925#32))) := rfl

theorem pay6_eq (x : FVec Ideal S18432x4096 .bf16) : k0_pay6 (F := Ideal) x = powVec (k0_pay5 (F := Ideal) x) := rfl

theorem amax_at (x : FVec Ideal S18432x4096 .bf16) (r : Fin 18432) :
    amaxVec x (ix2 r 0) = amax (fun k => x (ix2 r k)) := by
  pointwise [amaxVec, k0_pay4]
  rfl

theorem exp_at (a v : FVec Ideal S18432x1 .f32) (r : Fin 18432) :
    expVec a v (ix2 r 0) = rExp ((Real.log 2 : ℝ) : EReal) (a (ix2 r 0)) (v (ix2 r 0)) := by
  pointwise [expVec, ln_2]
  rfl

theorem pow_at (e : FVec Ideal S18432x1 .f32) (r : Fin 18432) : powVec e (ix2 r 0) = rPow (e (ix2 r 0)) := by
  pointwise [powVec]
  rfl

theorem scaled_at (a : FVec Ideal S18432x1 .f32) (r : Fin 18432) :
    mulf a (broadcast S18432x1 (Scalar.ofBits .f32 0x3B124925#32)) (ix2 r 0) = a (ix2 r 0) * inv448 := rfl

/-- The exponent of a row. -/
theorem pay5_at (x : FVec Ideal S18432x4096 .bf16) (r : Fin 18432) :
    k0_pay5 (F := Ideal) x (ix2 r 0) = rowExp (fun k => x (ix2 r k)) := by
  rw [pay5_eq, exp_at, scaled_at, amax_at]
  rfl

/-- The scale of a row. -/
theorem pay6_at (x : FVec Ideal S18432x4096 .bf16) (r : Fin 18432) :
    k0_pay6 (F := Ideal) x (ix2 r 0) = rowScale (fun k => x (ix2 r k)) := by
  rw [pay6_eq, pow_at, pay5_at]
  rfl

/-- The quantised array, from the column of exponents `e`. -/
def codesVec (v : FVec Ideal S18432x4096 .f32) (e : FVec Ideal S18432x1 .f32) : FVec Ideal S18432x4096 .fp8e4m3 :=
  truncf .fp8e4m3 (minimumf (broadcast S18432x4096 (Scalar.ofBits .f32 0x43E00000#32))
    (maximumf (broadcast S18432x4096 (Scalar.ofBits .f32 0xC3E00000#32))
      (mulf v (broadcastTo S18432x4096 (powVec (subf (broadcast S18432x1 (Scalar.ofBits .f32 0x00000000#32)) e))
        broadcasts_S18432x1_S18432x4096)))) bitsLt_fp8e4m3_f32

theorem pay1_eq (x : FVec Ideal S18432x4096 .bf16) :
    k0_pay1 (F := Ideal) (k0_pay4 x) (k0_pay7 x) (k0_pay8 (F := Ideal) x) k0_pay9 = codesVec (k0_pay4 x) (k0_pay5 (F := Ideal) x) := rfl

theorem codesVec_at (v : FVec Ideal S18432x4096 .f32) (e : FVec Ideal S18432x1 .f32) (r : Fin 18432) (k : Fin 4096) :
    codesVec v e (ix2 r k)
      = min (Ideal.ofBits .f32 0x43E00000#32) (max (Ideal.ofBits .f32 0xC3E00000#32) (v (ix2 r k) * rPow (0 - e (ix2 r 0)))) := by
  pointwise [codesVec, powVec]
  rfl

theorem pay4_eq (x : FVec Ideal S18432x4096 .bf16) (i : S18432x4096.Idx) : k0_pay4 (F := Ideal) x i = x i := by
  pointwise [k0_pay4]

/-- A quantised entry. -/
theorem codes_at (x : FVec Ideal S18432x4096 .bf16) (r : Fin 18432) (k : Fin 4096) :
    k0_pay1 (F := Ideal) (k0_pay4 x) (k0_pay7 x) (k0_pay8 (F := Ideal) x) k0_pay9 (ix2 r k) = rowCode (fun k => x (ix2 r k)) k := by
  rw [pay1_eq, codesVec_at, pay5_at, pay4_eq]
  rfl

/-- A scale in the line-of-128 layout. -/
theorem rows_at (v : FVec Ideal S18432x1 .f32) (p : Fin 144) (r : Fin 128) :
    k0_pay3 (F := Ideal) v (ix2 p r) = v (ix2 (⟨p.val * 128 + r.val, by omega⟩ : Fin 18432) 0) := by
  pointwise [k0_pay3]

theorem pay2_at (v2 : FVec Ideal S18432x4096 .f32) (v35 v37 : FVec Ideal S18432x1 .f32) (v39 : IVec S18432x1 1) (v40 : FVec Ideal S18432x1 .f32)
    (w : FVec Ideal S12288x4096 .fp8e4m3) (a b : FVec Ideal S1x12288 .f32) (p : Fin 2304) (r : Fin 8) (n : Fin 12288) :
    k0_pay2 (F := Ideal) v2 v35 v37 v39 v40 w a b (ix3 p r n)
      = (∑ k : Fin 4096, k0_pay1 (F := Ideal) v2 v37 v39 v40 (ix2 (⟨p.val * 8 + r.val, by omega⟩ : Fin 18432) k) * w (ix2 n k))
          * v35 (ix2 (⟨p.val * 8 + r.val, by omega⟩ : Fin 18432) 0) * a (ix2 0 n) + b (ix2 0 n) := by
  pointwise [k0_pay2]

/-- The quantised array is the specification's. -/
theorem codes_eq (x : FVec Ideal S18432x4096 .bf16) :
    k0_pay1 (F := Ideal) (k0_pay4 x) (k0_pay7 x) (k0_pay8 (F := Ideal) x) k0_pay9 = codes x := by
  funext i
  rw [eq_ix2 i]
  exact codes_at x (i 0) (i 1)

/-- The scales are the specification's. -/
theorem scales_eq (x : FVec Ideal S18432x4096 .bf16) : k0_pay3 (F := Ideal) (k0_pay6 (F := Ideal) x) = scales x := by
  funext i
  rw [eq_ix2 i]
  exact (rows_at _ (i 0) (i 1)).trans (pay6_at x _)

/-- The result is the specification's. -/
theorem out_eq (x : FVec Ideal S18432x4096 .bf16) (w : FVec Ideal S12288x4096 .fp8e4m3) (a b : FVec Ideal S1x12288 .f32) :
    k0_pay2 (F := Ideal) (k0_pay4 x) (k0_pay6 (F := Ideal) x) (k0_pay7 x) (k0_pay8 (F := Ideal) x) k0_pay9 w a b = out x w a b := by
  funext i
  rw [eq_ix3 i]
  refine (pay2_at _ _ _ _ _ w a b (i 0) (i 1) (i 2)).trans ?_
  simp only [codes_at, pay6_at]
  rfl

end Cert.ReferenceIdeal.Body

end
-- ==== Proof.ReferenceValue.lean ====
/- The reference's three result arrays after its run, over the extended reals, as the specification of its arguments. -/
module

public import proofs.«01_k».proof.Proof.Gen.ReferenceIdeal.Frame
public import proofs.«01_k».proof.Proof.ReferenceReads
public import Idealize.ShloMosaic.Lib.Pipeline.ValueKit

@[expose] public section

set_option maxRecDepth 16384

noncomputable section

namespace Cert.ReferenceIdeal.Body

open Idealize.ShloMosaic Idealize.ShloMosaic.TcCoe Idealize.SL.Sem
open Cert.ReferenceIdeal Cert.ReferenceIdeal.Gen Cert.Quant Cert.Spec

variable (m : (ℓ : Loc nD τ sig) → Buf (Elt Ideal) ℓ)

/-- The one point's blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0] :=
  (by decide +kernel : ∀ t : Fin grid0.N, _)

theorem iblk0 (c : Dev nD) : iblk m c 0 t0_0 = V m c main_v0 := by blk_ext! [iblk, idx t0_0]
theorem iblk1 (c : Dev nD) : iblk m c 1 t0_0 = V m c main_arg1 := by blk_ext! [iblk, idx t0_0]
theorem iblk2 (c : Dev nD) : iblk m c 2 t0_0 = V m c main_v1 := by blk_ext! [iblk, idx t0_0]
theorem iblk3 (c : Dev nD) : iblk m c 3 t0_0 = V m c main_v2 := by blk_ext! [iblk, idx t0_0]

theorem out4 (x : FVec Ideal S18432x4096 .bf16) (w : FVec Ideal S12288x4096 .fp8e4m3) (a b : FVec Ideal S1x12288 .f32) :
    out0_4 (F := Ideal) x w a b = out x w a b := by
  rw [← out_eq x w a b]
  unfold_out out0_4
  frame_out

theorem out5 (x : FVec Ideal S18432x4096 .bf16) (w : FVec Ideal S12288x4096 .fp8e4m3) (a b : FVec Ideal S1x12288 .f32) :
    out0_5 (F := Ideal) x w a b = codes x := by
  rw [← codes_eq x]
  unfold_out out0_5
  frame_out

theorem out6 (x : FVec Ideal S18432x4096 .bf16) (w : FVec Ideal S12288x4096 .fp8e4m3) (a b : FVec Ideal S1x12288 .f32) :
    out0_6 (F := Ideal) x w a b = scales x := by
  rw [← scales_eq x]
  unfold_out out0_6
  frame_out

/-- The result array. -/
theorem final4 (c : Dev nD) :
    (dats m 0 c).arrAt 4 (cfgs 0).N = out (V m c main_v0) (V m c main_arg1) (V m c main_v1) (V m c main_v2) := by
  refine (dats m 0 c).arrAt_eq_of_after_last 4 t0_0 (by decide +kernel) _ fun j => ?_
  blk_simp
  rw [after0_4, iblk0, iblk1, iblk2, iblk3, out4]
  blk_ext [idx t0_0]

/-- The quantised array. -/
theorem final5 (c : Dev nD) : (dats m 0 c).arrAt 5 (cfgs 0).N = codes (V m c main_v0) := by
  refine (dats m 0 c).arrAt_eq_of_after_last 5 t0_0 (by decide +kernel) _ fun j => ?_
  blk_simp
  rw [after0_5, out5, iblk0]
  blk_ext [idx t0_0]

/-- The scales. -/
theorem final6 (c : Dev nD) : (dats m 0 c).arrAt 6 (cfgs 0).N = scales (V m c main_v0) := by
  refine (dats m 0 c).arrAt_eq_of_after_last 6 t0_0 (by decide +kernel) _ fun j => ?_
  blk_simp
  rw [after0_6, out6, iblk0]
  blk_ext [idx t0_0]

/-! ## The operands as the host reshaped them -/

theorem V_v0 (c : Dev nD) : V m c main_v0
    = shapeCast S18432x4096 (m ((c.tc : Thread nD τ).loc main_arg0)) shapeCasts_S6x3072x4096_S18432x4096 := by
  entry_read
  rfl

theorem V_v1 (c : Dev nD) : V m c main_v1
    = shapeCast S1x12288 (m ((c.tc : Thread nD τ).loc main_arg2)) shapeCasts_S12288_S1x12288 := by
  entry_read
  rfl

theorem V_v2 (c : Dev nD) : V m c main_v2
    = shapeCast S1x12288 (m ((c.tc : Thread nD τ).loc main_arg3)) shapeCasts_S12288_S1x12288 := by
  entry_read
  rfl

end Cert.ReferenceIdeal.Body

end
-- ==== Proof.Claims.lean ====
/- The value claim: the kernel's and the reference's three results are equal over the extended reals, for every
   contents of the four arguments. -/
module

public import proofs.«01_k».proof.Defs
public import proofs.«01_k».proof.Proof.KernelValue
public import proofs.«01_k».proof.Proof.ReferenceValue
public import Idealize.ShloMosaic.Lib.Claim

@[expose] public section

set_option maxRecDepth 16384

noncomputable section

namespace Cert.Proof

open Idealize.ShloMosaic Idealize.ShloMosaic.TcCoe Idealize.SL.Sem

/-- The reference's named constant is the real logarithm of two. -/
theorem named : Cert.preserves_Reference_ReferenceIdeal :=
  IdealRules.named_const.statement Cert.ReferenceIdeal.κ "ln_2" .f32 0x3F317218#32 ((Real.log 2 : ℝ) : EReal) rfl

/-- The three results are equal, for every contents of the four arguments. -/
theorem algebraic : Cert.algebraic_KernelIdeal_ReferenceIdeal := by
  pair_intro
  · run_from Cert.KernelIdeal.Body.run_main m g
  · run_from Cert.ReferenceIdeal.Gen.run_main m' g'
    · rw [Cert.ReferenceIdeal.Body.final4, Cert.KernelIdeal.Body.final4, Cert.ReferenceIdeal.Body.V_v0, Cert.ReferenceIdeal.Body.V_v1,
        Cert.ReferenceIdeal.Body.V_v2, Cert.ReferenceIdeal.Gen.V_main_arg1, Cert.KernelIdeal.Body.V_v0, Cert.KernelIdeal.Body.V_v1,
        Cert.KernelIdeal.Body.V_v2, Cert.KernelIdeal.Gen.V_main_arg1, (hagree c).1, (hagree c).2.1, (hagree c).2.2.1, (hagree c).2.2.2]
    · rw [Cert.ReferenceIdeal.Body.final5, Cert.KernelIdeal.Body.final5, Cert.ReferenceIdeal.Body.V_v0, Cert.KernelIdeal.Body.V_v0,
        (hagree c).1]
    · rw [Cert.ReferenceIdeal.Body.final6, Cert.KernelIdeal.Body.final6, Cert.ReferenceIdeal.Body.V_v0, Cert.KernelIdeal.Body.V_v0,
        (hagree c).1]

end Cert.Proof

end
-- ==== Proof.lean ====
/- The proof of the whole claim: the frames of the kernel, its idealisation and the reference's two forms, the named
   constant, and the equality of the three results. -/
module

public import proofs.«01_k».proof.Defs
public import proofs.«01_k».proof.Proof.PlainFrame
public import proofs.«01_k».proof.Proof.Gen.Reference.Frame
public import proofs.«01_k».proof.Proof.Claims

@[expose] public section

open Idealize.ShloMosaic Idealize.SL.Sem

theorem Cert.Proof.claim : Cert.Claim :=
  ⟨Cert.Kernel.Gen.facts, Cert.KernelIdeal.Gen.facts, Cert.ReferenceIdeal.Gen.facts, Cert.Reference.Gen.facts,
    fun m ρ _ => Cert.Kernel.Body.frame m ρ, fun m ρ _ => Cert.KernelIdeal.Body.frame m ρ,
    fun m ρ _ => Cert.ReferenceIdeal.Gen.frame m ρ, fun m ρ _ => Cert.Reference.Gen.frame m ρ,
    trivial, Cert.Proof.named, Cert.Proof.algebraic⟩
